-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "d" .f32 0x3FCF1BBD#32 ((162584449622721564768636208203874294406788257791283926994083960396313686439103276458921200862632768052861466971993019282051949071330684114684534963673256795574998697607036516574631640939342282394024945873452961909838426871459427098225019438916648031921587595040862207529707960688463808628142047113514836453823292249885826631984840276666764563737359631300476281312187473213870226649400775274654137961100148471811260140794580359320205560043024384943041128809661196902900750771214183616393551001713481446368300466814740052044013999759694760222800620253719860433846920461124859559884930497079282373487177385732713280299021089521159391139594976478322735874151879398464778179407791726808435020433099960937434252361054333384071026025475843137185536597114768024432847589425768628203833833966022623061946014414159813275523956146899873578354700923163366252519158258007973470054426833601683923686570125532808668183447413375277677013959570519073613263048514321439008348989110635432551549222485734043812480433530284828179322480369463013513036078501847261837747150031681272511111852176944111326830449037864063253212561788077412400514196289410019868817705893906802819552564922222036118674606333508030195113998528762114206450824488283861258850378772606107796133268846255350811082543857778191635844770503195151290218531768927351739039166786343219089698750822438256479492297971446730432192551357541853054755505690605244214660465132807532514003491644876378997434225748802179881284191631101403491072773125849561764377280552754300974509961567737919311607157998963027647491689410698106136410392186732997664729844154160076108758004867742004639485569646829458610711182086947538376875418853971313743568887323458189881187521205343220000460289147645825431757195318206738704643008877038077366074375658433931478707379111428436989591511577001916442741864872556811761007559874976196810878309884814668708331154616557178842915425770743912539801764392977130769264734813256929073348245565289872029026589388110157226650030403 / 100482715909037023530925543446976344587968775611907359021997161761436885572863636324905035374499339583007838470514205393643074764536893536511293667977127252551948009441478128513641992853107241131181085456058407941325276115088354742292637898713857818650463316317185429088664451614662361793137377635584338333844623230557619224244505255005320524836512766472309540781339030797771878375566382189143431301699276164940330510943366550686127360584896933834288485324731595874664251659615907299444192554547968235972801039581960759263078547759052404639201759017305693080584112312301905499600714379240337300535406523862381341799375875667624641430930088709886113896741467438874310760541764730394586691984468170366959095830957686630573243226244708409757214140879982087900961183304207055753190661414453339417095432468945662621889952288650700377168116700721216788449599625740937231758577317882389803914643753151564848747046624414799352053251812830673112887144063481705725109122435888233525977819192424367118747915372271067815965307079211949791453195709272522552304528462363527638626461045398158970936396534038805972023618717273534998766359329304658561032804460125169648089311417781040275450031719712133233197301018558247297117578606446545537609511960328437793267623577681445904782999980204426775819079944419347748116121992121419899590805492321157103690204902062781367732418709513763131224782804518239614321566615771274881256587682433075830551946805941554208665484597642553570714217041364397662215675118520963834293778524760505376479002313009811279116489021826354678024214953339444631612080290672937673940527908946306121866333563935988355585958176799355251996292466600305829292882823183850869932707374494636898268182267803993929685775838400443780953124958831564203058641278025369437927836828041288567355375739154856244793618043772998896203238769157459142024332715517248490200918407302805299644593726277599105512008600496404813762390939463100789309542516398143383497897996911819435644485760144928553111126016 : ℝ) : EReal)
  ∧ IdealRules.named_const.Statement Cert.KernelIdeal.κ "inv_lnr" .f32 0x4303F562#32 (((Real.log (4537858175313259 / 4503599627370496))⁻¹ : ℝ) : EReal)
  ∧ IdealRules.named_const.Statement Cert.KernelIdeal.κ "lnr" .f32 0x3BF8520A#32 ((Real.log (4537858175313259 / 4503599627370496) : ℝ) : EReal)
  ∧ IdealRules.named_const.Statement Cert.KernelIdeal.κ "a" .f32 0x3F1ED187#32 ((100864898188237392742886195174294687753482121737304411712618073437606776147472724883466700901556266443029268720428907480001334833421758837363949771803980843496477180480006474578589796551142397495080968131815207093327101691980853712018196632150113041958120087551415716627154503956860262053229173181294717343311053550218132801874548146311556140622965445347387281171486091543363062035042505905261268438881406074186328629325873192752127257930713963764838459330688382116226305366747023480810021537505905205924717220645715765061242051317518281514092072909474208148788153666732937826836466610895339910338169500486051193814365043904552779456845976889151908143402940671818419326115678560656796128651634528213026648507104417516773599530484237566915798036521765851288832954346396857120782584998438789140383772609871223686023381144367560591783280604191489503836126795945697160680683613708136619479869205346748742796357017895479762988126754391838203995483117810438933501723917918957631978491799134633704352528644003268602935311485066191438732345452621303195311726686313887134370273670826245348697879564217442975709731473817570246292510500314263888733107274824140978100437902468630741404797384816913813783910964622196046337858364255195176786135578782761548094003473537179760932545195274430158542045347539707685275100280360220214603420173455493390938195616764780531572847673111622018184512829359342742509727346713429819046257831701177689809729407442816700362203565945158924032976144070560202824337073865481839796090016622527768855493113901223236466831206169685069435905708531246406851241819784623445938986102186799647674220852826579025962912390095505306687350993438232972393032455766311852665544163984801975459006640575258560859108451159946860048067362209309619095958313426574118392279486789674277181342948205874023770823696792644363077658754262015011833029951594755729082731945688366139551194124027870828016552178456453494279048777839332233722004368085329048681138044858645817758614901267151284590346240 / 162584449622721564768636208203874294406788257791283926994083960396313686439103276458921200862632768052861466971993019282051949071330684114684534963673256795574998697607036516574631640939342282394024945873452961909838426871459427098225019438916648031921587595040862207529707960688463808628142047113514836453823292249885826631984840276666764563737359631300476281312187473213870226649400775274654137961100148471811260140794580359320205560043024384943041128809661196902900750771214183616393551001713481446368300466814740052044013999759694760222800620253719860433846920461124859559884930497079282373487177385732713280299021089521159391139594976478322735874151879398464778179407791726808435020433099960937434252361054333384071026025475843137185536597114768024432847589425768628203833833966022623061946014414159813275523956146899873578354700923163366252519158258007973470054426833601683923686570125532808668183447413375277677013959570519073613263048514321439008348989110635432551549222485734043812480433530284828179322480369463013513036078501847261837747150031681272511111852176944111326830449037864063253212561788077412400514196289410019868817705893906802819552564922222036118674606333508030195113998528762114206450824488283861258850378772606107796133268846255350811082543857778191635844770503195151290218531768927351739039166786343219089698750822438256479492297971446730432192551357541853054755505690605244214660465132807532514003491644876378997434225748802179881284191631101403491072773125849561764377280552754300974509961567737919311607157998963027647491689410698106136410392186732997664729844154160076108758004867742004639485569646829458610711182086947538376875418853971313743568887323458189881187521205343220000460289147645825431757195318206738704643008877038077366074375658433931478707379111428436989591511577001916442741864872556811761007559874976196810878309884814668708331154616557178842915425770743912539801764392977130769264734813256929073348245565289872029026589388110157226650030403 : ℝ) : EReal)
  ∧ IdealRules.named_const.Statement Cert.KernelIdeal.κ "c" .f32 0x3F1E377A#32 ((100482715909037023530925543446976344587968775611907359021997161761436885572863636324905035374499339583007838470514205393643074764536893536511293667977127252551948009441478128513641992853107241131181085456058407941325276115088354742292637898713857818650463316317185429088664451614662361793137377635584338333844623230557619224244505255005320524836512766472309540781339030797771878375566382189143431301699276164940330510943366550686127360584896933834288485324731595874664251659615907299444192554547968235972801039581960759263078547759052404639201759017305693080584112312301905499600714379240337300535406523862381341799375875667624641430930088709886113896741467438874310760541764730394586691984468170366959095830957686630573243226244708409757214140879982087900961183304207055753190661414453339417095432468945662621889952288650700377168116700721216788449599625740937231758577317882389803914643753151564848747046624414799352053251812830673112887144063481705725109122435888233525977819192424367118747915372271067815965307079211949791453195709272522552304528462363527638626461045398158970936396534038805972023618717273534998766359329304658561032804460125169648089311417781040275450031719712133233197301018558247297117578606446545537609511960328437793267623577681445904782999980204426775819079944419347748116121992121419899590805492321157103690204902062781367732418709513763131224782804518239614321566615771274881256587682433075830551946805941554208665484597642553570714217041364397662215675118520963834293778524760505376479002313009811279116489021826354678024214953339444631612080290672937673940527908946306121866333563935988355585958176799355251996292466600305829292882823183850869932707374494636898268182267803993929685775838400443780953124958831564203058641278025369437927836828041288567355375739154856244793618043772998896203238769157459142024332715517248490200918407302805299644593726277599105512008600496404813762390939463100789309542516398143383497897996911819435644485760144928553111126016 / 162584449622721564768636208203874294406788257791283926994083960396313686439103276458921200862632768052861466971993019282051949071330684114684534963673256795574998697607036516574631640939342282394024945873452961909838426871459427098225019438916648031921587595040862207529707960688463808628142047113514836453823292249885826631984840276666764563737359631300476281312187473213870226649400775274654137961100148471811260140794580359320205560043024384943041128809661196902900750771214183616393551001713481446368300466814740052044013999759694760222800620253719860433846920461124859559884930497079282373487177385732713280299021089521159391139594976478322735874151879398464778179407791726808435020433099960937434252361054333384071026025475843137185536597114768024432847589425768628203833833966022623061946014414159813275523956146899873578354700923163366252519158258007973470054426833601683923686570125532808668183447413375277677013959570519073613263048514321439008348989110635432551549222485734043812480433530284828179322480369463013513036078501847261837747150031681272511111852176944111326830449037864063253212561788077412400514196289410019868817705893906802819552564922222036118674606333508030195113998528762114206450824488283861258850378772606107796133268846255350811082543857778191635844770503195151290218531768927351739039166786343219089698750822438256479492297971446730432192551357541853054755505690605244214660465132807532514003491644876378997434225748802179881284191631101403491072773125849561764377280552754300974509961567737919311607157998963027647491689410698106136410392186732997664729844154160076108758004867742004639485569646829458610711182086947538376875418853971313743568887323458189881187521205343220000460289147645825431757195318206738704643008877038077366074375658433931478707379111428436989591511577001916442741864872556811761007559874976196810878309884814668708331154616557178842915425770743912539801764392977130769264734813256929073348245565289872029026589388110157226650030403 : ℝ) : EReal)
  ∧ IdealRules.named_const.Statement Cert.KernelIdeal.κ "mtop" .f32 0x3F80C823#32 ((9549585249268663648476742184813257296961962143100884649490166964665858685531359523315114329664503653240853205151957028378813939975014890323865409309422532109051952973951857666130598532838799551500687041891991703250600115276975833747567663455372439653806357436854967349792218910761746110405500236087985492374823953110004566353600706255948143624418605177987340993856956580575279269879412252057160949664110817540763856036587791349752642298834397665260777280138268656978469877758014776039112373920289966666014085258419627893787840606742254446250005562959958466128935232054734916326733516186544644157233467199579819216936631297068014608738473453426498556189657823495360350350278339586321035440742924505311887655295493882225237306390514817579821941722602552220269405724907888471728416134523236449643005290832472269585449370103360687091529384519594521902996342992283597075036503412375186558490414818615547327301556488568515633744375277320423282872165483334883595352731908065995908793614649862305653083987924722854086681181471320446836605335517602974562975354190501892561777750384321013246022080181577449418711287053649106791844270856597636644503181122316717335253303690272613835449676106830833002795730911697592816478227661947817395199575296965997392929211036875126415208629678528574382871499692041602776998321704046847868509434385620372410062561539396349845004688056492878542402902530301790311334648500873057406387468790556570823469309777707339216176679339339518765462535720484249578305099386030844304033116451018436604895328041480657499770123662434429635665070060332832943317459153339413082744764363517141818140137710072733203493772989627115647512233348124714232238583535969369733098322992874406521233357379541099783784763875780536377276115838007801177148574793774875963162625681463769421723290884728589721091952844609188671315119429444071695727417254378873232541167094970786626124815788540466061964559545201828742172706428053779757233091194507807827107407560576457517970545435803 / 9491613590532634851266575494959493625315732943928752044593889430720993260554535007502428939769486474771465250088252283295987736598580252410639465355457699774676082512814260777637543949858139575736841696949781176598362515185387584964665404921885476446845739214336637690260604531586506200750275511950278581133814534350019614566319425804793422717847831691594427912010900661274621868042308226561320458937448138544144935373220849424133587873461039241925015640166200680834293675007499859865379334890132526452759070530544698626597219322019560279671946757201237408241034221816458621476850189670298900383438694853976506475262625846458107268670950055839046070906543930507720622289245554469687910942627424854609553829467486459302728607238752896558709164631273120649067636650631590556023215478576209081341057070399997982679610263354786659386361788293652205621852035561865958229268079848917850624774035002178398739683299928934769566426415582811506641772419376851756372477963770162889431602830156863005829938703918737535369033767888919658787939626447093556751050685835325920041335494992202891393109099965226549039229437380510117018872199330491993143281554120612816173839171578027910025865549035135021494548463723789427125171341673066663567938552674512490479678505641746995511361441752878087924188267550249545024812398541814753311091427691371456436756446798245556244116850651054360070937656857610099968919893310468276785466886220187533767976890323269137568276598430260600271827318541386728167781612105639727079065410604473629640934585880114110943476278270690486776114685683721579131139953689661711838892171052982847144472934389753080738781934829946056828911331227799690145548742252689776795414078884939764391425454025618911606671944733989688186836126830693957043785036464221392694500396529443750901834198963282332492445798312116235734051738848463247726804144182978286831004862581320222218096773751519262434781519796677165891734224407276494640950759217172798800749249954733308536959860556562 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x4096 : Shape := ⟨3, ![2, 8192, 4096]⟩
abbrev S255 : Shape := ⟨1, ![255]⟩
abbrev S256 : Shape := ⟨1, ![256]⟩
abbrev S16384x4096 : Shape := ⟨2, ![16384, 4096]⟩
abbrev S1x1 : Shape := ⟨2, ![1, 1]⟩
abbrev S512x4096 : Shape := ⟨2, ![512, 4096]⟩
abbrev S1x512x4096 : Shape := ⟨3, ![1, 512, 4096]⟩
abbrev S1 : Shape := ⟨1, ![1]⟩
abbrev S1x1x1 : Shape := ⟨3, ![1, 1, 1]⟩
abbrev S256x4096 : Shape := ⟨2, ![256, 4096]⟩

abbrev nBuf : Space → Nat
  | .hbm => 7
  | .vmem => 6
  | .smem => 2
  | _ => 0

abbrev bufTy : (tb : Table) → Fin (tcTables nBuf tb) → BufTy
  | .hbm, ⟨0, _⟩ => ⟨S2x8192x4096, .f32⟩
  | .hbm, ⟨1, _⟩ => ⟨S255, .f32⟩
  | .hbm, ⟨2, _⟩ => ⟨S256, .f32⟩
  | .hbm, ⟨3, _⟩ => ⟨S16384x4096, .f32⟩
  | .hbm, ⟨4, _⟩ => ⟨S1x1, .f32⟩
  | .hbm, ⟨5, _⟩ => ⟨S16384x4096, .f32⟩
  | .hbm, ⟨6, _⟩ => ⟨S2x8192x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .smem, ⟨0, _⟩ => ⟨S1x1, .f32⟩
  | .local _ .smem, ⟨1, _⟩ => ⟨S1x1, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_stg1_0 : Ref sig .tc := ⟨.smem, 0, rfl⟩
abbrev cc1_stg0_0 : Ref sig .tc := ⟨.smem, 1, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_1 : BitVec 32 := 0#32
  let v9 : BitVec 1 := Scalar.cmpi .ne v8 c0_i32_1
  v9

def k0_cond2 (i : grid0.Coords) : BitVec 1 :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "a" => some ((100864898188237392742886195174294687753482121737304411712618073437606776147472724883466700901556266443029268720428907480001334833421758837363949771803980843496477180480006474578589796551142397495080968131815207093327101691980853712018196632150113041958120087551415716627154503956860262053229173181294717343311053550218132801874548146311556140622965445347387281171486091543363062035042505905261268438881406074186328629325873192752127257930713963764838459330688382116226305366747023480810021537505905205924717220645715765061242051317518281514092072909474208148788153666732937826836466610895339910338169500486051193814365043904552779456845976889151908143402940671818419326115678560656796128651634528213026648507104417516773599530484237566915798036521765851288832954346396857120782584998438789140383772609871223686023381144367560591783280604191489503836126795945697160680683613708136619479869205346748742796357017895479762988126754391838203995483117810438933501723917918957631978491799134633704352528644003268602935311485066191438732345452621303195311726686313887134370273670826245348697879564217442975709731473817570246292510500314263888733107274824140978100437902468630741404797384816913813783910964622196046337858364255195176786135578782761548094003473537179760932545195274430158542045347539707685275100280360220214603420173455493390938195616764780531572847673111622018184512829359342742509727346713429819046257831701177689809729407442816700362203565945158924032976144070560202824337073865481839796090016622527768855493113901223236466831206169685069435905708531246406851241819784623445938986102186799647674220852826579025962912390095505306687350993438232972393032455766311852665544163984801975459006640575258560859108451159946860048067362209309619095958313426574118392279486789674277181342948205874023770823696792644363077658754262015011833029951594755729082731945688366139551194124027870828016552178456453494279048777839332233722004368085329048681138044858645817758614901267151284590346240 / 162584449622721564768636208203874294406788257791283926994083960396313686439103276458921200862632768052861466971993019282051949071330684114684534963673256795574998697607036516574631640939342282394024945873452961909838426871459427098225019438916648031921587595040862207529707960688463808628142047113514836453823292249885826631984840276666764563737359631300476281312187473213870226649400775274654137961100148471811260140794580359320205560043024384943041128809661196902900750771214183616393551001713481446368300466814740052044013999759694760222800620253719860433846920461124859559884930497079282373487177385732713280299021089521159391139594976478322735874151879398464778179407791726808435020433099960937434252361054333384071026025475843137185536597114768024432847589425768628203833833966022623061946014414159813275523956146899873578354700923163366252519158258007973470054426833601683923686570125532808668183447413375277677013959570519073613263048514321439008348989110635432551549222485734043812480433530284828179322480369463013513036078501847261837747150031681272511111852176944111326830449037864063253212561788077412400514196289410019868817705893906802819552564922222036118674606333508030195113998528762114206450824488283861258850378772606107796133268846255350811082543857778191635844770503195151290218531768927351739039166786343219089698750822438256479492297971446730432192551357541853054755505690605244214660465132807532514003491644876378997434225748802179881284191631101403491072773125849561764377280552754300974509961567737919311607157998963027647491689410698106136410392186732997664729844154160076108758004867742004639485569646829458610711182086947538376875418853971313743568887323458189881187521205343220000460289147645825431757195318206738704643008877038077366074375658433931478707379111428436989591511577001916442741864872556811761007559874976196810878309884814668708331154616557178842915425770743912539801764392977130769264734813256929073348245565289872029026589388110157226650030403 : ℝ) : EReal)
  | "c" => some ((100482715909037023530925543446976344587968775611907359021997161761436885572863636324905035374499339583007838470514205393643074764536893536511293667977127252551948009441478128513641992853107241131181085456058407941325276115088354742292637898713857818650463316317185429088664451614662361793137377635584338333844623230557619224244505255005320524836512766472309540781339030797771878375566382189143431301699276164940330510943366550686127360584896933834288485324731595874664251659615907299444192554547968235972801039581960759263078547759052404639201759017305693080584112312301905499600714379240337300535406523862381341799375875667624641430930088709886113896741467438874310760541764730394586691984468170366959095830957686630573243226244708409757214140879982087900961183304207055753190661414453339417095432468945662621889952288650700377168116700721216788449599625740937231758577317882389803914643753151564848747046624414799352053251812830673112887144063481705725109122435888233525977819192424367118747915372271067815965307079211949791453195709272522552304528462363527638626461045398158970936396534038805972023618717273534998766359329304658561032804460125169648089311417781040275450031719712133233197301018558247297117578606446545537609511960328437793267623577681445904782999980204426775819079944419347748116121992121419899590805492321157103690204902062781367732418709513763131224782804518239614321566615771274881256587682433075830551946805941554208665484597642553570714217041364397662215675118520963834293778524760505376479002313009811279116489021826354678024214953339444631612080290672937673940527908946306121866333563935988355585958176799355251996292466600305829292882823183850869932707374494636898268182267803993929685775838400443780953124958831564203058641278025369437927836828041288567355375739154856244793618043772998896203238769157459142024332715517248490200918407302805299644593726277599105512008600496404813762390939463100789309542516398143383497897996911819435644485760144928553111126016 / 162584449622721564768636208203874294406788257791283926994083960396313686439103276458921200862632768052861466971993019282051949071330684114684534963673256795574998697607036516574631640939342282394024945873452961909838426871459427098225019438916648031921587595040862207529707960688463808628142047113514836453823292249885826631984840276666764563737359631300476281312187473213870226649400775274654137961100148471811260140794580359320205560043024384943041128809661196902900750771214183616393551001713481446368300466814740052044013999759694760222800620253719860433846920461124859559884930497079282373487177385732713280299021089521159391139594976478322735874151879398464778179407791726808435020433099960937434252361054333384071026025475843137185536597114768024432847589425768628203833833966022623061946014414159813275523956146899873578354700923163366252519158258007973470054426833601683923686570125532808668183447413375277677013959570519073613263048514321439008348989110635432551549222485734043812480433530284828179322480369463013513036078501847261837747150031681272511111852176944111326830449037864063253212561788077412400514196289410019868817705893906802819552564922222036118674606333508030195113998528762114206450824488283861258850378772606107796133268846255350811082543857778191635844770503195151290218531768927351739039166786343219089698750822438256479492297971446730432192551357541853054755505690605244214660465132807532514003491644876378997434225748802179881284191631101403491072773125849561764377280552754300974509961567737919311607157998963027647491689410698106136410392186732997664729844154160076108758004867742004639485569646829458610711182086947538376875418853971313743568887323458189881187521205343220000460289147645825431757195318206738704643008877038077366074375658433931478707379111428436989591511577001916442741864872556811761007559874976196810878309884814668708331154616557178842915425770743912539801764392977130769264734813256929073348245565289872029026589388110157226650030403 : ℝ) : EReal)
  | "d" => some ((162584449622721564768636208203874294406788257791283926994083960396313686439103276458921200862632768052861466971993019282051949071330684114684534963673256795574998697607036516574631640939342282394024945873452961909838426871459427098225019438916648031921587595040862207529707960688463808628142047113514836453823292249885826631984840276666764563737359631300476281312187473213870226649400775274654137961100148471811260140794580359320205560043024384943041128809661196902900750771214183616393551001713481446368300466814740052044013999759694760222800620253719860433846920461124859559884930497079282373487177385732713280299021089521159391139594976478322735874151879398464778179407791726808435020433099960937434252361054333384071026025475843137185536597114768024432847589425768628203833833966022623061946014414159813275523956146899873578354700923163366252519158258007973470054426833601683923686570125532808668183447413375277677013959570519073613263048514321439008348989110635432551549222485734043812480433530284828179322480369463013513036078501847261837747150031681272511111852176944111326830449037864063253212561788077412400514196289410019868817705893906802819552564922222036118674606333508030195113998528762114206450824488283861258850378772606107796133268846255350811082543857778191635844770503195151290218531768927351739039166786343219089698750822438256479492297971446730432192551357541853054755505690605244214660465132807532514003491644876378997434225748802179881284191631101403491072773125849561764377280552754300974509961567737919311607157998963027647491689410698106136410392186732997664729844154160076108758004867742004639485569646829458610711182086947538376875418853971313743568887323458189881187521205343220000460289147645825431757195318206738704643008877038077366074375658433931478707379111428436989591511577001916442741864872556811761007559874976196810878309884814668708331154616557178842915425770743912539801764392977130769264734813256929073348245565289872029026589388110157226650030403 / 100482715909037023530925543446976344587968775611907359021997161761436885572863636324905035374499339583007838470514205393643074764536893536511293667977127252551948009441478128513641992853107241131181085456058407941325276115088354742292637898713857818650463316317185429088664451614662361793137377635584338333844623230557619224244505255005320524836512766472309540781339030797771878375566382189143431301699276164940330510943366550686127360584896933834288485324731595874664251659615907299444192554547968235972801039581960759263078547759052404639201759017305693080584112312301905499600714379240337300535406523862381341799375875667624641430930088709886113896741467438874310760541764730394586691984468170366959095830957686630573243226244708409757214140879982087900961183304207055753190661414453339417095432468945662621889952288650700377168116700721216788449599625740937231758577317882389803914643753151564848747046624414799352053251812830673112887144063481705725109122435888233525977819192424367118747915372271067815965307079211949791453195709272522552304528462363527638626461045398158970936396534038805972023618717273534998766359329304658561032804460125169648089311417781040275450031719712133233197301018558247297117578606446545537609511960328437793267623577681445904782999980204426775819079944419347748116121992121419899590805492321157103690204902062781367732418709513763131224782804518239614321566615771274881256587682433075830551946805941554208665484597642553570714217041364397662215675118520963834293778524760505376479002313009811279116489021826354678024214953339444631612080290672937673940527908946306121866333563935988355585958176799355251996292466600305829292882823183850869932707374494636898268182267803993929685775838400443780953124958831564203058641278025369437927836828041288567355375739154856244793618043772998896203238769157459142024332715517248490200918407302805299644593726277599105512008600496404813762390939463100789309542516398143383497897996911819435644485760144928553111126016 : ℝ) : EReal)
  | "inv_lnr" => some (((Real.log (4537858175313259 / 4503599627370496))⁻¹ : ℝ) : EReal)
  | "lnr" => some ((Real.log (4537858175313259 / 4503599627370496) : ℝ) : EReal)
  | "mtop" => some ((9549585249268663648476742184813257296961962143100884649490166964665858685531359523315114329664503653240853205151957028378813939975014890323865409309422532109051952973951857666130598532838799551500687041891991703250600115276975833747567663455372439653806357436854967349792218910761746110405500236087985492374823953110004566353600706255948143624418605177987340993856956580575279269879412252057160949664110817540763856036587791349752642298834397665260777280138268656978469877758014776039112373920289966666014085258419627893787840606742254446250005562959958466128935232054734916326733516186544644157233467199579819216936631297068014608738473453426498556189657823495360350350278339586321035440742924505311887655295493882225237306390514817579821941722602552220269405724907888471728416134523236449643005290832472269585449370103360687091529384519594521902996342992283597075036503412375186558490414818615547327301556488568515633744375277320423282872165483334883595352731908065995908793614649862305653083987924722854086681181471320446836605335517602974562975354190501892561777750384321013246022080181577449418711287053649106791844270856597636644503181122316717335253303690272613835449676106830833002795730911697592816478227661947817395199575296965997392929211036875126415208629678528574382871499692041602776998321704046847868509434385620372410062561539396349845004688056492878542402902530301790311334648500873057406387468790556570823469309777707339216176679339339518765462535720484249578305099386030844304033116451018436604895328041480657499770123662434429635665070060332832943317459153339413082744764363517141818140137710072733203493772989627115647512233348124714232238583535969369733098322992874406521233357379541099783784763875780536377276115838007801177148574793774875963162625681463769421723290884728589721091952844609188671315119429444071695727417254378873232541167094970786626124815788540466061964559545201828742172706428053779757233091194507807827107407560576457517970545435803 / 9491613590532634851266575494959493625315732943928752044593889430720993260554535007502428939769486474771465250088252283295987736598580252410639465355457699774676082512814260777637543949858139575736841696949781176598362515185387584964665404921885476446845739214336637690260604531586506200750275511950278581133814534350019614566319425804793422717847831691594427912010900661274621868042308226561320458937448138544144935373220849424133587873461039241925015640166200680834293675007499859865379334890132526452759070530544698626597219322019560279671946757201237408241034221816458621476850189670298900383438694853976506475262625846458107268670950055839046070906543930507720622289245554469687910942627424854609553829467486459302728607238752896558709164631273120649067636650631590556023215478576209081341057070399997982679610263354786659386361788293652205621852035561865958229268079848917850624774035002178398739683299928934769566426415582811506641772419376851756372477963770162889431602830156863005829938703918737535369033767888919658787939626447093556751050685835325920041335494992202891393109099965226549039229437380510117018872199330491993143281554120612816173839171578027910025865549035135021494548463723789427125171341673066663567938552674512490479678505641746995511361441752878087924188267550249545024812398541814753311091427691371456436756446798245556244116850651054360070937656857610099968919893310468276785466886220187533767976890323269137568276598430260600271827318541386728167781612105639727079065410604473629640934585880114110943476278270690486776114685683721579131139953689661711838892171052982847144472934389753080738781934829946056828911331227799690145548742252689776795414078884939764391425454025618911606671944733989688186836126830693957043785036464221392694500396529443750901834198963282332492445798312116235734051738848463247726804144182978286831004862581320222218096773751519262434781519796677165891734224407276494640950759217172798800749249954733308536959860556562 : ℝ) : EReal)
  | _ => none
-- ==== ReferenceIdeal.lean ====
abbrev S2x8192x4096 : Shape := ⟨3, ![2, 8192, 4096]⟩
abbrev S255 : Shape := ⟨1, ![255]⟩
abbrev S256 : Shape := ⟨1, ![256]⟩
abbrev S127 : Shape := ⟨1, ![127]⟩
abbrev S_ : Shape := ⟨0, ![]⟩
abbrev S1 : Shape := ⟨1, ![1]⟩
abbrev S257 : Shape := ⟨1, ![257]⟩
abbrev S2x8192x4096x1 : Shape := ⟨4, ![2, 8192, 4096, 1]⟩
abbrev S1x1x1x255 : Shape := ⟨4, ![1, 1, 1, 255]⟩
abbrev S2x8192x4096x255 : Shape := ⟨4, ![2, 8192, 4096, 255]⟩
abbrev S1x1x1x1 : Shape := ⟨4, ![1, 1, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S255, .f32⟩
  | .hbm, ⟨2, _⟩ => ⟨S256, .f32⟩
  | .hbm, ⟨3, _⟩ => ⟨S127, .i32⟩
  | .hbm, ⟨4, _⟩ => ⟨S127, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S127, .f32⟩
  | .hbm, ⟨11, _⟩ => ⟨S127, .f32⟩
  | .hbm, ⟨12, _⟩ => ⟨S_, .f32⟩
  | .hbm, ⟨13, _⟩ => ⟨S_, .f32⟩
  | .hbm, ⟨14, _⟩ => ⟨S127, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S127, .f32⟩
  | .hbm, ⟨20, _⟩ => ⟨S127, .f32⟩
  | .hbm, ⟨21, _⟩ => ⟨S127, .f32⟩
  | .hbm, ⟨22, _⟩ => ⟨S127, .f32⟩
  | .hbm, ⟨23, _⟩ => ⟨S_, .f32⟩
  | .hbm, ⟨24, _⟩ => ⟨S1, .f32⟩
  | .hbm, ⟨25, _⟩ => ⟨S255, .f32⟩
  | .hbm, ⟨26, _⟩ => ⟨S1, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S257, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S2x8192x4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2x8192x4096, .f32⟩
  | .hbm, ⟨55, _⟩ => ⟨S2x8192x4096, .f32⟩
  | .hbm, ⟨56, _⟩ => ⟨S2x8192x4096x1, .f32⟩
  | .hbm, ⟨57, _⟩ => ⟨S1x1x1x255, .f32⟩
  | .hbm, ⟨58, _⟩ => ⟨S2x8192x4096x255, .f32⟩
  | .hbm, ⟨59, _⟩ => ⟨S2x8192x4096x255, .f32⟩
  | .hbm, ⟨60, _⟩ => ⟨S2x8192x4096x255, .i1⟩
  | .hbm, ⟨61, _⟩ => ⟨S2x8192x4096x255, .i32⟩
  | .hbm, ⟨62, _⟩ => ⟨S_, .i32⟩
  | .hbm, ⟨63, _⟩ => ⟨S2x8192x4096, .i32⟩
  | .hbm, ⟨64, _⟩ => ⟨S_, .i32⟩
  | .hbm, ⟨65, _⟩ => ⟨S2x8192x4096, .i32⟩
  | .hbm, ⟨66, _⟩ => ⟨S2x8192x4096, .i1⟩
  | .hbm, ⟨67, _⟩ => ⟨S_, .i32⟩
  | .hbm, ⟨68, _⟩ => ⟨S2x8192x4096, .i32⟩
  | .hbm, ⟨69, _⟩ => ⟨S2x8192x4096, .i32⟩
  | .hbm, ⟨70, _⟩ => ⟨S2x8192x4096, .i32⟩
  | .hbm, ⟨71, _⟩ => ⟨S2x8192x4096x1, .i32⟩
  | .hbm, ⟨72, _⟩ => ⟨S1, .i32⟩
  | .hbm, ⟨73, _⟩ => ⟨S_, .i32⟩
  | .hbm, ⟨74, _⟩ => ⟨S2x8192x4096x1, .i32⟩
  | .hbm, ⟨75, _⟩ => ⟨S2x8192x4096x1, .i1⟩
  | .hbm, ⟨76, _⟩ => ⟨S1x1x1x1, .i32⟩
  | .hbm, ⟨77, _⟩ => ⟨S2x8192x4096x1, .i32⟩
  | .hbm, ⟨78, _⟩ => ⟨S2x8192x4096x1, .i1⟩
  | .hbm, ⟨79, _⟩ => ⟨S2x8192x4096x1, .i1⟩
  | .hbm, ⟨80, _⟩ => ⟨S_, .i1⟩
  | .hbm, ⟨81, _⟩ => ⟨S2x8192x4096, .i1⟩
  | .hbm, ⟨82, _⟩ => ⟨S2x8192x4096, .f32⟩
  | .hbm, ⟨83, _⟩ => ⟨S_, .f32⟩
  | .hbm, ⟨84, _⟩ => ⟨S2x8192x4096, .f32⟩
  | .hbm, ⟨85, _⟩ => ⟨S2x8192x4096, .f32⟩
  | .hbm, ⟨86, _⟩ => ⟨S2x8192x4096, .f32⟩
  | .hbm, ⟨87, _⟩ => ⟨S2x8192x4096, .f32⟩
  | .hbm, ⟨88, _⟩ => ⟨S2x8192x4096, .f32⟩
  | .hbm, ⟨89, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_call0_cst : Ref sig .tc := ⟨.hbm, 12, rfl⟩
abbrev main_call0_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c : Ref sig .tc := ⟨.hbm, 62, rfl⟩
abbrev main_v49 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_cst : Ref sig .tc := ⟨.hbm, 83, rfl⟩
abbrev main_call1_v14 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩

abbrev nD : Nat := 1
abbrev τ : Topo := Topo.v7x

variable {F : FTy → Type} [FloatOps F]
-- ==== Proof.KernelIdeal.Body.lean ====
/-
  The two kernel bodies of the program, each run once from the buffers the pipeline hands it.

  `_amax` reads one block of 512 rows and one scalar cell. At the first grid point it leaves in the cell the
  largest absolute value of the block. At a later point it leaves the larger of that and what the cell held.
  `_quant` reads the scalar cell and one block of 256 rows and writes the quantised block.
  The statements are over any float values, so the machine's words and the extended reals are both instances.
-/
module

public import proofs.«01_k».proof.Proof.Gen.KernelIdeal.Launch
public import proofs.«01_k».proof.Proof.Gen.KernelIdeal.Points
public import Idealize.ShloMosaic.Lib.Pipeline.Value
public import proofs.«01_k».proof.Proof.Gen.KernelIdeal.Skeleton
public import Idealize.ShloMosaic.Lib.Tactic
public import Idealize.ShloMosaic.Lib.Pipeline.FrameBody
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline library's own copy beside a copy of counters. -/
abbrev UU : Type := UR sig nD τ × Counters

local notation "𝕄" => MT nD τ sig Unit (Elt F) ℕ UU ℕ

/-- The offsets of a whole two-axis buffer are zero. -/
theorem off0 : (![0, 0] : Fin 2 → Nat) = fun _ => 0 := funext fun a => by fin_cases a <;> rfl

/-- A whole memref held at contents that read `X`. -/
abbrev has (c : Dev nD) {sp : Space} {S : Shape} {e : EltTy} (M : Memref sig .tc sp S e) (X : S.Idx → Elt F e) : sProp 𝕄 :=
  owns (c : Thread nD τ) M fullShare X

/-- One store through a whole two-axis buffer leaves its payload, whatever the buffer held. -/
theorem stored {sp : Space} {e : EltTy} {n k : Nat} (v : View sig .tc sp ⟨2, ![n, k]⟩ e) (f : v.ty.Contents (Elt F))
    (inb : ∀ a, (![0, 0] : Fin 2 → Nat) a + (⟨2, ![n, k]⟩ : Shape).size a ≤ (⟨2, ![n, k]⟩ : Shape).size a)
    (w : (⟨2, ![n, k]⟩ : Shape).Idx → Elt F e) :
    v.read (Elt F) (v.writes (Elt F) f [(⟨Rect.unit (s := ⟨2, ![n, k]⟩) ![0, 0] (⟨2, ![n, k]⟩ : Shape).size inb, w⟩ : View.Piece (Elt F) ⟨2, ![n, k]⟩ e)]) = w := by
  rw [View.read_writes_eq_canon _ _ _ (fun y => ⟨_, List.mem_singleton_self _, View.mem_set_unit_zero off0 inb y⟩), View.canon_unit_zero off0]

/-- `_amax` at the first grid point: the scalar cell ends at the block's largest absolute value. -/
theorem amax_first (c : Dev nD) (i : grid0.Coords) (h1 : k0_cond1 i = 1#1) (h2 : ¬ k0_cond2 i = 1#1)
    (A : Memref sig .tc .vmem S512x4096 .f32) (hA : A.IsWhole) (B : Memref sig .tc .smem S1x1 .f32) (hB : B.IsWhole)
    (x : Vec F S512x4096 .f32) (b : Vec F S1x1 .f32) (Q : PUnit → sProp 𝕄) :
    iprop(has c A x ∗ has c B b ∗ (iprop(has c A x ∗ has c B (fun _ => k0_pay1 x)) -∗ Q ⟨⟩))
      ⊢ wp frame (wpE (defs₀ (F := F)) Variants.none (c : Thread nD τ) none) Set.univ (cc0__amax_kernel (F := F) i A hA B hB) Q := by
  rw [cc0__amax_kernel_eq_skeleton]
  unfold cc0__amax_kernel_skel has owns
  rw [hA.set_eq_univ, hB.set_eq_univ]
  iintro ⟨⟨%f, %hf, HA⟩, ⟨%g, %hg, HB⟩, Hk⟩
  sl_exec!
  sl_step
  iapply Hk
  isplitl [HA]
  · iexists f; isplitr; · ipureintro; exact hf
    iexact HA
  · iexists _; isplitr; swap; · iexact HB
    ipureintro
    sl_unfold_words
    rw [stored, View.readAt_eq_ld, hf, View.ld_unit_zero off0]
    rfl

/-- `_amax` at a later grid point: the scalar cell ends at the larger of what it held and the block's largest absolute value. -/
theorem amax_later (c : Dev nD) (i : grid0.Coords) (h1 : ¬ k0_cond1 i = 1#1) (h2 : k0_cond2 i = 1#1)
    (A : Memref sig .tc .vmem S512x4096 .f32) (hA : A.IsWhole) (B : Memref sig .tc .smem S1x1 .f32) (hB : B.IsWhole)
    (x : Vec F S512x4096 .f32) (b : Elt F .f32) (Q : PUnit → sProp 𝕄) :
    iprop(has c A x ∗ has c B (fun _ => b) ∗ (iprop(has c A x ∗ has c B (fun _ => k0_pay2 x b)) -∗ Q ⟨⟩))
      ⊢ wp frame (wpE (defs₀ (F := F)) Variants.none (c : Thread nD τ) none) Set.univ (cc0__amax_kernel (F := F) i A hA B hB) Q := by
  rw [cc0__amax_kernel_eq_skeleton]
  unfold cc0__amax_kernel_skel has owns
  rw [hA.set_eq_univ, hB.set_eq_univ]
  iintro ⟨⟨%f, %hf, HA⟩, ⟨%g, %hg, HB⟩, Hk⟩
  sl_exec!
  sl_step
  iapply Hk
  isplitl [HA]
  · iexists f; isplitr; · ipureintro; exact hf
    iexact HA
  · iexists _; isplitr; swap; · iexact HB
    ipureintro
    sl_unfold_words
    rw [stored]
    simp only [View.readAt_eq_ld, hf, hg]
    rw [View.ld_unit_zero off0]
    rfl

/-- `_quant`: the output block ends at the quantised block, from the scalar cell and the input block. -/
theorem quant (c : Dev nD) (i : grid1.Coords)
    (A : Memref sig .tc .smem S1x1 .f32) (hA : A.IsWhole) (B : Memref sig .tc .vmem S256x4096 .f32) (hB : B.IsWhole)
    (C : Memref sig .tc .vmem S256x4096 .f32) (hC : C.IsWhole)
    (s : Elt F .f32) (x o : Vec F S256x4096 .f32) (Q : PUnit → sProp 𝕄) :
    iprop(has c A (fun _ => s) ∗ has c B x ∗ has c C o
        ∗ (iprop(has c A (fun _ => s) ∗ has c B x ∗ has c C (k1_pay1 (k1_pay2 s) (k1_pay3 s x))) -∗ Q ⟨⟩))
      ⊢ wp frame (wpE (defs₀ (F := F)) Variants.none (c : Thread nD τ) none) Set.univ (cc1__quant_kernel (F := F) i A hA B hB C hC) Q := by
  rw [cc1__quant_kernel_eq_skeleton]
  unfold cc1__quant_kernel_skel has owns
  rw [k1_part1_eq_skeleton]
  unfold k1_part1_skel
  rw [hA.set_eq_univ, hB.set_eq_univ, hC.set_eq_univ]
  iintro ⟨⟨%f, %hf, HA⟩, ⟨%g, %hg, HB⟩, ⟨%k, %hk, HC⟩, Hk⟩
  sl_exec!
  sl_step
  iapply Hk
  isplitl [HA]
  · iexists f; isplitr; · ipureintro; exact hf
    iexact HA
  isplitl [HB]
  · iexists g; isplitr; · ipureintro; exact hg
    iexact HB
  · iexists _; isplitr; swap; · iexact HC
    ipureintro
    sl_unfold_words
    rw [stored]
    simp only [View.readAt_eq_ld, hf, hg]
    rw [View.ld_unit_zero (S := S256x4096) off0]

end Cert.KernelIdeal.Run

end
-- ==== Proof.KernelIdeal.Run.lean ====
/-
  The run of the whole program. The two host reshapes and the two kernels are four segments; each kernel's proof
  data say what its staging buffers hold at every grid point, and the launch chains the four.
  The result buffer and the arguments are read off the last contents.
-/
module

public import proofs.«01_k».proof.Proof.KernelIdeal.Body
public import proofs.«01_k».proof.Proof.Gen.KernelIdeal.Regions
public import Idealize.ShloMosaic.Lib.Pipeline.FrameBody
public import Idealize.ShloMosaic.Lib.Pipeline.FrameTail
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg afterRegion)

variable {F : FTy → Type} [FloatOps F] [Named F]

local notation "𝕄" => MT nD τ sig Unit (Elt F) ℕ UU ℕ

/-! ## The blocks and the accumulated scalar -/

/-- The block of 512 rows that the first kernel fetches at point `t`. -/
abbrev rows (V : Valuation τ sig (Elt F)) (t : Fin cfg0.N) : Vec F S512x4096 .f32 :=
  ((cfg0.win 0).blk t).view.read (Elt F) (V (Proc.devRef .tc main_v0))

/-- The largest absolute value of the blocks up to and including block `n`. -/
def acc (V : Valuation τ sig (Elt F)) : (n : ℕ) → n < cfg0.N → Elt F .f32
  | 0, h => k0_pay1 (rows V ⟨0, h⟩)
  | n + 1, h => k0_pay2 (rows V ⟨n + 1, h⟩) (acc V n (Nat.lt_of_succ_lt h))

/-- The scalar cell that the second kernel fetches. -/
abbrev cell (V : Valuation τ sig (Elt F)) (t : Fin cfg1.N) : Vec F S1x1 .f32 :=
  ((cfg1.win 0).blk t).view.read (Elt F) (V (Proc.devRef .tc main_v1))

/-- The block of 256 rows that the second kernel fetches at point `t`. -/
abbrev rows' (V : Valuation τ sig (Elt F)) (t : Fin cfg1.N) : Vec F S256x4096 .f32 :=
  ((cfg1.win 1).blk t).view.read (Elt F) (V (Proc.devRef .tc main_v0))

/-- The block the second kernel writes, from the scalar and its block of rows. -/
abbrev quantised (s : Elt F .f32) (x : Vec F S256x4096 .f32) : Vec F S256x4096 .f32 := k1_pay1 (k1_pay2 s) (k1_pay3 s x)

/-- The only index of a one-by-one array. -/
abbrev origin : S1x1.Idx := fun a => ⟨0, by fin_cases a <;> decide⟩

/-! ## The proof data -/

/-- The first kernel's data, entered at the contents `V`. -/
def dat0 (V : Dev nD → Valuation τ sig (Elt F)) (c : Dev nD) : Dat τ (Elt F) Unit ℕ UU ℕ cfg0 c where
  A w := V c (Proc.devRef .tc (Pipeline.arrRef spec0 w))
  after w t := match w with
    | ⟨0, _⟩ => rows (V c) t
    | ⟨1, _⟩ => fun _ => acc (V c) t.val t.isLt
    | ⟨_ + 2, h⟩ => absurd h (Nat.not_lt.2 (Nat.le_add_left _ _))
  Φ _ := Pipeline.scopedRest spec0 c
  q _ := fullShare
  owed _ := 0

/-- The second kernel's data, entered at the contents `V`. -/
def dat1 (V : Dev nD → Valuation τ sig (Elt F)) (c : Dev nD) : Dat τ (Elt F) Unit ℕ UU ℕ cfg1 c where
  A w := V c (Proc.devRef .tc (Pipeline.arrRef spec1 w))
  after w t := match w with
    | ⟨0, _⟩ => cell (V c) t
    | ⟨1, _⟩ => rows' (V c) t
    | ⟨2, _⟩ => quantised (cell (V c) t origin) (rows' (V c) t)
    | ⟨_ + 3, h⟩ => absurd h (Nat.not_lt.2 (Nat.le_add_left _ _))
  Φ _ := Pipeline.scopedRest spec1 c
  q _ := fullShare
  owed _ := 0

/-! ## What the buffers hold when a body starts -/

variable (V : Dev nD → Valuation τ sig (Elt F)) (c : Dev nD)

theorem before0_rows (t : Fin cfg0.N) (d) : (dat0 V c).before 0 t d = rows (V c) t :=
  Dat.before_in_eq_fetched _ 0 rfl (fun _ => rfl) (fun _ _ _ => rfl) (fun _ => rfl) t d

/-- At every point of the first grid exactly one of the two branches is taken: the first one at the first point. -/
theorem branches : ∀ t : Fin cfg0.N, (t.val = 0 → k0_cond1 (grid0.coords t) = 1#1 ∧ ¬ k0_cond2 (grid0.coords t) = 1#1)
    ∧ (t.val ≠ 0 → ¬ k0_cond1 (grid0.coords t) = 1#1 ∧ k0_cond2 (grid0.coords t) = 1#1) := by decide +kernel

/-- The first kernel writes its scalar cell at every point. -/
theorem never_idle : ∀ i : cfg0.grid.Coords, cfg0.idle (1 : Fin 2) i = false :=
  (by decide +kernel : ∀ i : grid0.Coords, idle0 1 i = false)

theorem before0_cell (t : Fin cfg0.N) (ht : t.val ≠ 0) (d) :
    (dat0 V c).before 1 t d = fun _ => acc (V c) (t.val - 1) (Nat.lt_of_le_of_lt (Nat.sub_le _ _) t.isLt) :=
  Dat.before_out_kept _ 1 rfl t ht (by
    rw [Bool.eq_false_iff]
    intro h
    have h1 := (flush0_1 _).mp h
    have h2 := t.isLt
    have h3 : cfg0.N = 32 := N_0
    simp only at h1
    omega) never_idle (fun _ _ => rfl) d

theorem before1_cell (t : Fin cfg1.N) (d) : (dat1 V c).before 0 t d = cell (V c) t :=
  Dat.before_in_eq_fetched _ 0 rfl (fun _ => rfl) (fun _ _ _ => rfl) (fun _ => rfl) t d

theorem before1_rows (t : Fin cfg1.N) (d) : (dat1 V c).before 1 t d = rows' (V c) t :=
  Dat.before_in_eq_fetched _ 1 rfl (fun _ => rfl) (fun _ _ _ => rfl) (fun _ => rfl) t d

/-- A one-by-one array is its only entry. -/
theorem single (X : Vec F S1x1 .f32) : X = fun _ => X origin := by
  funext j
  congr 1
  funext a
  exact Fin.ext (by have := (j a).isLt; fin_cases a <;> simpa [S1x1] using this)

theorem after_eq (n : ℕ) (hn : n < cfg0.N) : (dat0 V c).after 1 ⟨n, hn⟩ = fun _ => acc (V c) n hn := rfl

theorem after_first (t : Fin cfg0.N) (ht : t.val = 0) : (dat0 V c).after 1 t = fun _ => k0_pay1 (rows (V c) t) := by
  obtain ⟨n, hn⟩ := t
  obtain rfl : n = 0 := ht
  rw [after_eq, acc]

theorem after_later (t : Fin cfg0.N) (ht : t.val ≠ 0) :
    (dat0 V c).after 1 t = fun _ => k0_pay2 (rows (V c) t) (acc (V c) (t.val - 1) (Nat.lt_of_le_of_lt (Nat.sub_le _ _) t.isLt)) := by
  obtain ⟨n, hn⟩ := t
  obtain ⟨k, rfl⟩ := Nat.exists_eq_succ_of_ne_zero ht
  show (fun _ => acc (V c) (k + 1) hn) = _
  rw [acc]
  rfl

/-! ## The bodies, at every grid point -/

set_option backward.isDefEq.respectTransparency false in
theorem body0 : BodyObligation (dat0 V c) (defs₀ (F := F)) Variants.none () Set.univ := fun t => by
  rw [bigSep_W0, bigSep_W0]
  rw [show (dat0 V c).Φ t.castSucc = (dat0 V c).Φ t.succ from rfl, show (dat0 V c).owesAt () t.succ = (dat0 V c).owesAt () t.castSucc from rfl]
  iintro ⟨HΦ, Howes, ⟨%d0, H0⟩, ⟨%d1, H1⟩⟩
  rw [before0_rows]
  by_cases ht : t.val = 0
  · iapply (amax_first c (grid0.coords t) ((branches t).1 ht).1 ((branches t).1 ht).2
      _ (hstage0_0 ((cfg0.slots t 0).cast nbuf0_0)) _ (hstage0_1 ((cfg0.slots t 1).cast nbuf0_1)) (rows (V c) t) ((dat0 V c).before 1 t d1))
    isplitl [H0]; · iexact H0
    isplitl [H1]; · iexact H1
    iintro ⟨H0, H1⟩
    isplitl [HΦ]; · iexact HΦ
    isplitl [Howes]; · iexact Howes
    isplitl [H0]; · iexact H0
    rw [show cfg0.idle 1 (cfg0.grid.coords t) = false from never_idle _]
    rw [after_first V c t ht]
    iexact H1
  · rw [before0_cell V c t ht]
    iapply (amax_later c (grid0.coords t) ((branches t).2 ht).1 ((branches t).2 ht).2
      _ (hstage0_0 ((cfg0.slots t 0).cast nbuf0_0)) _ (hstage0_1 ((cfg0.slots t 1).cast nbuf0_1)) (rows (V c) t) (acc (V c) (t.val - 1) (Nat.lt_of_le_of_lt (Nat.sub_le _ _) t.isLt)))
    isplitl [H0]; · iexact H0
    isplitl [H1]; · iexact H1
    iintro ⟨H0, H1⟩
    isplitl [HΦ]; · iexact HΦ
    isplitl [Howes]; · iexact Howes
    isplitl [H0]; · iexact H0
    rw [show cfg0.idle 1 (cfg0.grid.coords t) = false from never_idle _]
    rw [after_later V c t ht]
    iexact H1

theorem body1 : BodyObligation (dat1 V c) (defs₀ (F := F)) Variants.none () Set.univ := fun t => by
  rw [bigSep_W1, bigSep_W1]
  rw [show (dat1 V c).Φ t.castSucc = (dat1 V c).Φ t.succ from rfl, show (dat1 V c).owesAt () t.succ = (dat1 V c).owesAt () t.castSucc from rfl]
  iintro ⟨HΦ, Howes, ⟨%d0, H0⟩, ⟨%d1, H1⟩, ⟨%d2, H2⟩⟩
  rw [before1_cell, before1_rows]
  iapply (quant c (grid1.coords t) _ (hstage1_0 ((cfg1.slots t 0).cast nbuf1_0)) _ (hstage1_1 ((cfg1.slots t 1).cast nbuf1_1))
    _ (hstage1_2 ((cfg1.slots t 2).cast nbuf1_2)) (cell (V c) t origin) (rows' (V c) t) ((dat1 V c).before 2 t d2))
  rw [← single (cell (V c) t)]
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The contents between the segments -/

variable (m : (ℓ : Loc nD τ sig) → Buf (Elt F) ℓ)

/-- After the first reshape. -/
abbrev U1 (c : Dev nD) : Valuation τ sig (Elt F) := V1 m c
/-- After the first kernel. -/
def U2 (c : Dev nD) : Valuation τ sig (Elt F) := afterRegion (dat0 (U1 m) c) (U1 m c)
/-- After the second kernel. -/
def U3 (c : Dev nD) : Valuation τ sig (Elt F) := afterRegion (dat1 (U2 m) c) (U2 m c)
/-- After the last reshape. -/
def U4 (c : Dev nD) : Valuation τ sig (Elt F) := StableHlo.after hostOps2 (U3 m c)

theorem U2_of (r : Ref sig .tc) (h : ∀ w, Pipeline.arrRef spec0 w = r → (cfg0.win w).isOut = false) :
    U2 m c (Proc.devRef .tc r) = U1 m c (Proc.devRef .tc r) :=
  Pipeline.afterRegion_keeps (dat0 (U1 m) c) (U1 m c) winFacts0.arr_inj (fun _ => rfl) r h

theorem U3_of (r : Ref sig .tc) (h : ∀ w, Pipeline.arrRef spec1 w = r → (cfg1.win w).isOut = false) :
    U3 m c (Proc.devRef .tc r) = U2 m c (Proc.devRef .tc r) :=
  Pipeline.afterRegion_keeps (dat1 (U2 m) c) (U2 m c) winFacts1.arr_inj (fun _ => rfl) r h

theorem U4_of (r : Ref sig .tc) (h : r ∉ hostOps2_W) : U4 m c (Proc.devRef .tc r) = U3 m c (Proc.devRef .tc r) :=
  StableHlo.after_of_writes_sub hostOps2 _ hostOps2_writes h

/-- A buffer that no segment writes ends as it was launched. -/
theorem U4_keeps (r : Ref sig .tc) (h : r ∉ hostOps2_W) (h1 : ∀ w, Pipeline.arrRef spec1 w = r → (cfg1.win w).isOut = false)
    (h0 : ∀ w, Pipeline.arrRef spec0 w = r → (cfg0.win w).isOut = false) (h' : r ∉ hostOps0_W) :
    U4 m c (Proc.devRef .tc r) = m ((c : Thread nD τ).loc r) :=
  (U4_of c m r h).trans <| (U3_of c m r h1).trans <| (U2_of c m r h0).trans <| V1_of m c r h'

theorem U4_arg0 : U4 m c (Proc.devRef .tc main_arg0) = m ((c : Thread nD τ).loc main_arg0) :=
  U4_keeps c m main_arg0 (by decide) (by decide) (by decide) (by decide)
theorem U4_arg1 : U4 m c (Proc.devRef .tc main_arg1) = m ((c : Thread nD τ).loc main_arg1) :=
  U4_keeps c m main_arg1 (by decide) (by decide) (by decide) (by decide)
theorem U4_arg2 : U4 m c (Proc.devRef .tc main_arg2) = m ((c : Thread nD τ).loc main_arg2) :=
  U4_keeps c m main_arg2 (by decide) (by decide) (by decide) (by decide)

/-! ## The segments -/

/-- The waits on the staging semaphores are the only ones, and a core owes nothing. -/
abbrev L (g : GSem nD τ sig) : Finset Unit := if g.1.2 = .tc then {()} else ∅
abbrev lv : GSem nD τ sig → Unit → ℕ := fun _ _ => 0

/-- The two kernels' data, each entered at the contents its region is reached with. -/
def dats : (p : Fin 2) → (c : Dev nD) → Dat τ (Elt F) Unit ℕ UU ℕ (cfgs p) c
  | 0 => dat0 (U1 m)
  | 1 => dat1 (U2 m)
  | ⟨_ + 2, h⟩ => absurd h (Nat.not_lt.2 (Nat.le_add_left _ _))

theorem levelCut (p : Fin 2) : Pipeline.LevelCut (pcfgs (F := F)) adm () L lv p (fun _ => 0) (fun _ => 0) where
  hι _ _ _ := by simp [L]
  hιb _ _ _ := le_rfl
  hD _ _ _ h := absurd h (Nat.lt_irrefl _)

/-- What rides along beside the buffers between two segments: what the core owes. -/
abbrev rest (c : Dev nD) : sProp 𝕄 := iprop((∃ W, owes (c : Thread nD τ) (0 : CellTallies nD τ sig Unit) W) ∗ BI.emp ∗ BI.emp)

section Region

variable (p : Fin 2) (kit : Pipeline.PLaunchFacts (nD := nD) (τ := τ) (pcfgs (F := F)) p) (hK : (pcfgs (F := F) p).pre.K = 0)
  (hbody : ∀ c, Pipeline.BodyObligationLoose (dats m p c) (defs₀ (F := F)) Variants.none () Set.univ)
  (howed : ∀ c t, (dats m p c).owed t = 0) (hrec : ∀ c, (dats m p c).recorded 0 = Set.univ)
  (hshare : ∀ c w, (dats m p c).share w = fullShare)
  (hΦ : ∀ c t, (dats m p c).Φ t = Pipeline.scopedRest (Pipeline.pin (pcfgs (F := F)) adm p).spec c)
  (W : Dev nD → Valuation τ sig (Elt F))
  (hW : ∀ c w, (dats m p c).arrAt w 0 = W c (Proc.devRef .tc (Pipeline.arrRef (Pipeline.pin (pcfgs (F := F)) adm p).spec w)))
  (hS : Pipeline.arrRefs (τ := τ) (pcfgs (F := F) p).spec ⊆ Pipeline.ucRefs τ sig)

/-- A kernel's segment, entered with every buffer at the contents `W`. -/
def region : RegionSeg (pcfgs (F := F)) adm (dats m) () defs₀ Variants.none L lv p :=
  RegionSeg.ofHeldIn (pcfgs (F := F)) adm (dats m) () defs₀ Variants.none L lv p (fun _ => 0) (Pipeline.ucRefs τ sig)
    (fun _ => BI.emp) (fun _ => BI.emp) kit hK hbody howed hrec hshare
    (fun c => by rw [hΦ]; iintro ⟨H, -⟩; iexact H)
    (fun c => by
      rw [hΦ]; iintro H
      isplitl [H]; · iexact H
      iempintro)
    (fun _ => 0) (levelCut p) (fun _ => BI.emp) W hW

include hS in
/-- It is entered with every buffer at `W`, the core owing nothing. -/
theorem region_pre (c : Dev nD) : iprop(StableHlo.held (c : Thread nD τ) (Pipeline.ucRefs τ sig) (W c) ∗ rest c)
    ⊢ (region m p kit hK hbody howed hrec hshare hΦ W hW).pre c :=
  RegionSeg.ofHeldIn_pre (D := fun _ => 0) (X := fun _ => BI.emp) (R := fun _ => BI.emp) (W := W) hS c

include hS in
/-- It is left with every buffer at the contents after the kernel, the core owing nothing. -/
theorem region_post (c : Dev nD) : (region m p kit hK hbody howed hrec hshare hΦ W hW).post c
    ⊢ iprop(StableHlo.held (c : Thread nD τ) (Pipeline.ucRefs τ sig) (afterRegion (dats m p c) (W c)) ∗ rest c) :=
  RegionSeg.ofHeldIn_post hS c

end Region

/-- The first kernel's segment. -/
def region0 : RegionSeg (pcfgs (F := F)) adm (dats m) () defs₀ Variants.none L lv 0 :=
  region m 0 (launch0).toP rfl (fun c => (body0 (U1 m) c).loose) (fun _ _ => rfl) (fun _ => rfl)
    (fun c => (dat0 (U1 m) c).share_full fun _ => rfl) (fun _ _ => rfl) (U1 m) (fun _ _ => rfl)

theorem region0_pre (c : Dev nD) : iprop(StableHlo.held (c : Thread nD τ) (Pipeline.ucRefs τ sig) (U1 m c) ∗ rest c) ⊢ (region0 m).pre c :=
  region_pre m 0 _ _ _ _ _ _ _ _ _ (Pipeline.arrRefs_sub_ucRefs spec0 (by decide)) c

theorem region0_post (c : Dev nD) : (region0 m).post c ⊢ iprop(StableHlo.held (c : Thread nD τ) (Pipeline.ucRefs τ sig) (U2 m c) ∗ rest c) :=
  region_post m 0 _ _ _ _ _ _ _ _ _ (Pipeline.arrRefs_sub_ucRefs spec0 (by decide)) c

/-- The second kernel's segment. -/
def region1 : RegionSeg (pcfgs (F := F)) adm (dats m) () defs₀ Variants.none L lv 1 :=
  region m 1 (launch1).toP rfl (fun c => (body1 (U2 m) c).loose) (fun _ _ => rfl) (fun _ => rfl)
    (fun c => (dat1 (U2 m) c).share_full fun _ => rfl) (fun c t => show (dats m 1 c).Φ t = Pipeline.scopedRest spec1 c from rfl) (U2 m) (fun _ _ => rfl)

theorem region1_pre (c : Dev nD) : iprop(StableHlo.held (c : Thread nD τ) (Pipeline.ucRefs τ sig) (U2 m c) ∗ rest c) ⊢ (region1 m).pre c :=
  region_pre m 1 _ _ _ _ _ _ _ _ _ (Pipeline.arrRefs_sub_ucRefs spec1 (by decide)) c

theorem region1_post (c : Dev nD) : (region1 m).post c ⊢ iprop(StableHlo.held (c : Thread nD τ) (Pipeline.ucRefs τ sig) (U3 m c) ∗ rest c) :=
  region_post m 1 _ _ _ _ _ _ _ _ _ (Pipeline.arrRefs_sub_ucRefs spec1 (by decide)) c

/-! ## The launch -/

/-- The last reshape's segment. -/
def segLast : HostSeg (Ix := Unit) (Name := ℕ) (U := UU) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U3 m) rest

/-- The program's four segments. -/
abbrev parts (_ : Dev nD) : List (Seg (pcfgs (F := F)) adm (dats m) () defs₀ Variants.none L lv) :=
  [.host (seg0 m Variants.none L lv (fun _ => rest)), .region (region0 m), .region (region1 m), .host (segLast m)]

/-- The launch's ghost state: every staging cell's tokens, and no counter. -/
def u₀ : UU := (initOf (Pipeline.cells cfgs cellOf_inj) (Pipeline.launchToks cfgs cellOf_inj), 1)

set_option backward.isDefEq.respectTransparency.types false in
/-- Every execution of the program ends, with the result and the arguments at the contents `U4` and no semaphore raised. -/
theorem run (ρ : Dev nD → PrngReg) :
    θ_run defs (onTc (τ := τ) (main (F := F))) ⟨m, fun _ => 0, ρ⟩ (fun r => (∀ c : Dev nD,
      r.2.mem ((c.tc : Thread nD τ).loc main_v3) = U4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (dats m) () cellOf_inj embL defs₀ Variants.none L lv m ρ main
    (parts m)
    (fun c Q => by
      rewrite [main_chain c, Seg.run_eq_chain,
        show (parts m c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [parts, Seg.pipes_host, Seg.pipes_region, Seg.pipes_nil]; decide) (O₀ := 0)
    (hL := fun g hg => if_neg hg) (G := fun _ => iprop(emp)) (u₀ := u₀) (hu₀ := ?_)
    (T₀ := fun c => iprop(StableHlo.held (c : Thread nD τ) (Pipeline.ucRefs τ sig) (V0 m c) ∗ rest c))
    (Tₙ := fun c => StableHlo.held (c : Thread nD τ) (Pipeline.ucRefs τ sig) (U4 m c))
    (hch := fun c => ⟨.rfl, region0_pre m c, (region0_post m c).trans (region1_pre m c), region1_post m c, sep_mono .rfl (by iintro ⟨H, -⟩; iexact H)⟩)
    (hinit := ?_) (QY := fun c s => s.mem ((c.tc : Thread nD τ).loc main_v3) = U4 m c (Proc.devRef .tc main_v3) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [Pipeline.unscopedBufs_held c (V0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (U4_arg0 c m),
        (h (Proc.devRef .tc main_arg1) (Finset.mem_filter.mpr ⟨StableHlo.devRef_mem_tcRefs main_arg1, by decide⟩)).trans (U4_arg1 c m),
        (h (Proc.devRef .tc main_arg2) (Finset.mem_filter.mpr ⟨StableHlo.devRef_mem_tcRefs main_arg2, by decide⟩)).trans (U4_arg2 c m)⟩
    · iexact HSI

end Cert.KernelIdeal.Run

end
-- ==== Proof.Frames.lean ====
/-
  Four of the five claims: each program runs, ends, and leaves its arguments and its semaphores as they were, and
  every named constant of the kernel stands where its own literal stood.
-/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.SL.Sem

/-- On the machine's words the kernel ends, faults nowhere, keeps its arguments and leaves no semaphore raised. -/
theorem frame_kernel : Cert.quiescent_Kernel (hKernel := Cert.Kernel.Gen.facts) := fun m ρ _ =>
  (θ_run _ _ _).mono (fun _ h => ⟨fun c => (h.1 c).2, h.2⟩) (Cert.Kernel.Run.run m ρ)

/-- The same over the extended reals. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Run.run m ρ)

/-- The same for the reference. -/
theorem frame_reference : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (Cert.ReferenceIdeal.Value.run m ρ)

/-- Each of the six named constants is read, over the extended reals, as the value its name stands for. -/
theorem preserves : Cert.preserves_Kernel_KernelIdeal :=
  ⟨IdealRules.named_const.statement Cert.KernelIdeal.κ "d" .f32 _ _ rfl,
    IdealRules.named_const.statement Cert.KernelIdeal.κ "inv_lnr" .f32 _ _ rfl,
    IdealRules.named_const.statement Cert.KernelIdeal.κ "lnr" .f32 _ _ rfl,
    IdealRules.named_const.statement Cert.KernelIdeal.κ "a" .f32 _ _ rfl,
    IdealRules.named_const.statement Cert.KernelIdeal.κ "c" .f32 _ _ rfl,
    IdealRules.named_const.statement Cert.KernelIdeal.κ "mtop" .f32 _ _ rfl⟩

end Cert.Proof

end
-- ==== Proof.Golden.lean ====
module
public import Idealize.ShloMosaic.PureOps.Ideal

/-! The quantiser over the real numbers: the table of 255 golden-ratio boundaries, the table of 256
    replacement values, and the closed form that picks the same replacement value without a table. -/

@[expose] public section

noncomputable section

namespace Cert.Golden

variable (r : ℝ)

/-- The sum of the 127 widths `1, r, r², …`, up to the factor `r − 1`. -/
def den : ℝ := r ^ 127 - 1

/-- The boundary number `i`: 127 negative ones, zero, 127 positive ones, the outermost at −1 and 1. -/
def bnd (i : ℕ) : ℝ := if i < 127 then -((r ^ (127 - i) - 1) / den r) else (r ^ (i - 127) - 1) / den r

/-- The boundaries with one more on either side, at the distance of the outermost two. -/
def pad (i : ℕ) : ℝ :=
  if i = 0 then 2 * bnd r 0 - bnd r 1 else if i = 256 then 2 * bnd r 254 - bnd r 253 else bnd r (i - 1)

/-- The replacement value of bucket `i`: the middle of its two boundaries. -/
def rep (i : ℕ) : ℝ := 2⁻¹ * (pad r i + pad r (i + 1))

/-- The bucket of `v`: the number of boundaries below it. -/
def bucket (v : ℝ) : ℕ := ((Finset.range 255).filter fun i => bnd r i < v).card

/-- The position of `|v|` on the logarithmic scale on which the boundary `k` away from zero sits at `k`. -/
def pos (v : ℝ) : ℝ := Real.log (|v| * den r + 1) * (Real.log r)⁻¹

/-- How many buckets away from zero the closed form puts `v`, between 0 and 127. -/
def steps (v : ℝ) : ℝ :=
  min 127 (max 0 (if 0 < v then ((⌈pos r v⌉ : ℤ) : ℝ) - 1 else ((⌊pos r v⌋ : ℤ) : ℝ)))

/-- The magnitude of the replacement value `j` buckets away from zero. -/
def mag (j : ℝ) : ℝ :=
  if j = 127 then 3 / 2 - (r ^ 126 - 1) / (2 * den r)
  else Real.exp (j * Real.log r) * ((1 + r) / (2 * den r)) - 1 / den r

/-- The closed form: the magnitude with the sign of `v`. -/
def quant (v : ℝ) : ℝ := if 0 < v then mag r (steps r v) else 0 - mag r (steps r v)

variable {r} (hr : 1 < r)
include hr

theorem den_pos : 0 < den r := by
  have := one_lt_pow₀ hr (n := 127) (by norm_num)
  unfold den; linarith

theorem log_pos : 0 < Real.log r := Real.log_pos hr

theorem arg_pos (v : ℝ) : 0 < |v| * den r + 1 := by
  have := mul_nonneg (abs_nonneg v) (den_pos hr).le
  linarith

/-- The boundary `k` above zero lies below a positive `x` exactly when `k` is below the position of `x`. -/
theorem pow_lt_iff (k : ℕ) (v : ℝ) : (r ^ k - 1) / den r < |v| ↔ (k : ℝ) < pos r v := by
  have hD := den_pos hr
  have hl := log_pos hr
  rw [div_lt_iff₀ hD, pos, ← div_eq_mul_inv, lt_div_iff₀ hl, ← Real.log_pow,
    Real.log_lt_log_iff (by positivity) (arg_pos hr v)]
  constructor <;> intro h <;> linarith

/-- The same the other way round. -/
theorem lt_pow_iff (k : ℕ) (v : ℝ) : |v| < (r ^ k - 1) / den r ↔ pos r v < (k : ℝ) := by
  have hD := den_pos hr
  have hl := log_pos hr
  rw [lt_div_iff₀ hD, pos, ← div_eq_mul_inv, div_lt_iff₀ hl, ← Real.log_pow,
    Real.log_lt_log_iff (arg_pos hr v) (by positivity)]
  constructor <;> intro h <;> linarith

theorem step_nonneg (k : ℕ) : 0 ≤ (r ^ k - 1) / den r :=
  div_nonneg (by have := one_le_pow₀ hr.le (n := k); linarith) (den_pos hr).le

theorem pos_nonneg (v : ℝ) : 0 ≤ pos r v :=
  mul_nonneg (Real.log_nonneg (by have := mul_nonneg (abs_nonneg v) (den_pos hr).le; linarith))
    (inv_nonneg.2 (log_pos hr).le)

theorem pos_pos {v : ℝ} (hv : 0 < v) : 0 < pos r v :=
  mul_pos (Real.log_pos (by have := mul_pos (abs_pos.2 hv.ne') (den_pos hr); linarith))
    (inv_pos.2 (log_pos hr))

omit hr in
/-- A set of indices cut off by a bound has the bound as its size. -/
theorem card_below {p : ℕ → Prop} [DecidablePred p] {n c : ℕ} (hc : c ≤ n) (h : ∀ i < n, p i ↔ i < c) :
    ((Finset.range n).filter p).card = c := by
  have : (Finset.range n).filter p = Finset.range c := by
    ext i
    simp only [Finset.mem_filter, Finset.mem_range]
    constructor
    · rintro ⟨h1, h2⟩; exact (h i h1).1 h2
    · intro h1; exact ⟨by omega, (h i (by omega)).2 h1⟩
  rw [this, Finset.card_range]

/-- The bucket of a positive number. -/
theorem bucket_of_pos {v : ℝ} (hv : 0 < v) : bucket r v = 128 + min 127 (⌈pos r v⌉ - 1).toNat := by
  have h1 : 0 < ⌈pos r v⌉ := Int.ceil_pos.2 (pos_pos hr hv)
  refine card_below (by omega) fun i hi => ?_
  unfold bnd
  split
  · have := step_nonneg hr (127 - i)
    constructor
    · intro; omega
    · intro; linarith
  · obtain ⟨k, rfl⟩ := Nat.exists_eq_add_of_le (not_lt.1 ‹_›)
    rw [Nat.add_sub_cancel_left, ← abs_of_pos hv, pow_lt_iff hr, abs_of_pos hv]
    rw [show ((k : ℕ) : ℝ) = (((k : ℕ) : ℤ) : ℝ) by simp, ← Int.lt_ceil]
    omega

/-- The bucket of zero or a negative number. -/
theorem bucket_of_nonpos {v : ℝ} (hv : v ≤ 0) : bucket r v = 127 - min 127 ⌊pos r v⌋.toNat := by
  have h1 : 0 ≤ ⌊pos r v⌋ := Int.floor_nonneg.2 (pos_nonneg hr v)
  refine card_below (by omega) fun i hi => ?_
  unfold bnd
  split
  · rw [neg_lt, ← abs_of_nonpos hv, lt_pow_iff hr]
    rw [show (((127 - i : ℕ)) : ℝ) = (((127 - i : ℕ) : ℤ) : ℝ) by simp, ← Int.floor_lt]
    omega
  · have := step_nonneg hr (i - 127)
    constructor
    · intro; linarith
    · intro; omega

/-- A whole number of steps as a natural number. -/
theorem steps_of_pos {v : ℝ} (hv : 0 < v) : steps r v = ((min 127 (⌈pos r v⌉ - 1).toNat : ℕ) : ℝ) := by
  have h1 : 0 < ⌈pos r v⌉ := Int.ceil_pos.2 (pos_pos hr hv)
  have h2 : (((⌈pos r v⌉ - 1).toNat : ℕ) : ℝ) = ((⌈pos r v⌉ : ℤ) : ℝ) - 1 := by
    rw [← Int.cast_natCast, Int.toNat_of_nonneg (by omega)]; push_cast; ring
  rw [steps, if_pos hv, ← h2, max_eq_right (Nat.cast_nonneg _)]
  push_cast; rfl

theorem steps_of_nonpos {v : ℝ} (hv : v ≤ 0) : steps r v = ((min 127 ⌊pos r v⌋.toNat : ℕ) : ℝ) := by
  have h1 : 0 ≤ ⌊pos r v⌋ := Int.floor_nonneg.2 (pos_nonneg hr v)
  have h2 : ((⌊pos r v⌋.toNat : ℕ) : ℝ) = ((⌊pos r v⌋ : ℤ) : ℝ) := by
    rw [← Int.cast_natCast, Int.toNat_of_nonneg h1]
  rw [steps, if_neg (not_lt.2 hv), ← h2, max_eq_right (Nat.cast_nonneg _)]
  push_cast; rfl

/-- The magnitude a whole number of steps away from zero, by powers of the ratio. -/
theorem mag_nat (j : ℕ) (hj : j ≤ 126) : mag r (j : ℝ) = r ^ j * ((1 + r) / (2 * den r)) - 1 / den r := by
  have : (j : ℝ) ≠ 127 := by
    intro h; have : j = 127 := by exact_mod_cast h
    omega
  rw [mag, if_neg this, ← Real.log_pow, Real.exp_log (by positivity)]

theorem mag_top : mag r ((127 : ℕ) : ℝ) = 3 / 2 - (r ^ 126 - 1) / (2 * den r) := by
  rw [mag, if_pos (by norm_num)]

/-- The replacement value `j` buckets above zero. -/
theorem rep_above (j : ℕ) (hj : j ≤ 127) : rep r (128 + j) = mag r (j : ℝ) := by
  have hD := (den_pos hr).ne'
  have h254 : (r ^ 127 - 1) / den r = 1 := div_self hD
  rcases Nat.lt_or_ge j 127 with h | h
  · rw [mag_nat hr j (by omega), rep, pad, pad, if_neg (by omega), if_neg (by omega), if_neg (by omega),
      if_neg (by omega), bnd, bnd, if_neg (by omega), if_neg (by omega),
      show 128 + j - 1 - 127 = j by omega, show 128 + j + 1 - 1 - 127 = j + 1 by omega]
    field_simp
    ring
  · obtain rfl : j = 127 := by omega
    rw [mag_top hr]
    simp only [rep, pad, bnd]
    norm_num
    rw [h254]
    field_simp
    ring

/-- The replacement value `j` buckets below. -/
theorem rep_below (j : ℕ) (hj : j ≤ 127) : rep r (127 - j) = 0 - mag r (j : ℝ) := by
  have hD := (den_pos hr).ne'
  have h254 : (r ^ 127 - 1) / den r = 1 := div_self hD
  have hb : ∀ k ≤ 127, bnd r (127 - k) = -((r ^ k - 1) / den r) := by
    intro k hk
    unfold bnd
    split
    · rw [show 127 - (127 - k) = k by omega]
    · obtain rfl : k = 0 := by omega
      simp
  rcases Nat.lt_or_ge j 127 with h | h
  · rw [mag_nat hr j (by omega), rep, pad, pad, if_neg (by omega), if_neg (by omega), if_neg (by omega),
      if_neg (by omega), show 127 - j - 1 = 127 - (j + 1) by omega, show 127 - j + 1 - 1 = 127 - j by omega,
      hb _ (by omega), hb _ hj]
    field_simp
    ring
  · obtain rfl : j = 127 := by omega
    rw [mag_top hr]
    have h0 := hb 127 (by omega)
    have h1 := hb 126 (by omega)
    rw [h254] at h0
    simp only [rep, pad]
    norm_num at h0 h1 ⊢
    rw [h0, h1]
    field_simp
    ring

/-- The closed form picks the replacement value of the bucket. -/
theorem quant_eq (v : ℝ) : quant r v = rep r (bucket r v) := by
  rcases lt_or_ge 0 v with hv | hv
  · rw [quant, if_pos hv, steps_of_pos hr hv, bucket_of_pos hr hv, rep_above hr _ (by omega)]
  · rw [quant, if_neg (not_lt.2 hv), steps_of_nonpos hr hv, bucket_of_nonpos hr hv, rep_below hr _ (by omega)]

/-- The replacement value of the bucket of zero is negative. -/
theorem rep_zero_neg : rep r (bucket r 0) < 0 := by
  have hD := den_pos hr
  have hp : pos r 0 = 0 := by simp [pos]
  rw [bucket_of_nonpos hr le_rfl, hp]
  have h := rep_below hr 0 (by omega)
  rw [mag_nat hr 0 (by omega)] at h
  simp only [Int.floor_zero, Int.toNat_zero, Nat.min_zero]
  rw [h]
  have : 0 < r ^ 0 * ((1 + r) / (2 * den r)) - 1 / den r := by
    rw [pow_zero, one_mul, show (1 + r) / (2 * den r) - 1 / den r = (r - 1) / (2 * den r) by field_simp; ring]
    exact div_pos (by linarith) (by linarith)
  linarith

omit hr in
theorem bucket_le (v : ℝ) : bucket r v ≤ 255 :=
  (Finset.card_filter_le _ _).trans (by simp)

end Cert.Golden
end
-- ==== Proof.Consts.lean ====
/-
  The numbers written in the two programs, read as real numbers: the words of the float constants, and the
  exact values of the kernel's six named constants in terms of the ratio of neighbouring bucket widths.
-/
module

public import proofs.«01_k».proof.Proof.Gen.KernelIdeal
public import proofs.«01_k».proof.Proof.Golden
public import Idealize.ShloMosaic.PureOps.IdealRules

@[expose] public section

set_option maxRecDepth 16384

noncomputable section

namespace Cert.Consts

open Idealize.ShloMosaic Cert.Golden

/-- The ratio of neighbouring bucket widths, the binary64 number of the host's table code. -/
def ratio : ℝ := 4537858175313259 / 4503599627370496

theorem one_lt_ratio : 1 < ratio := by norm_num [ratio]

theorem word_zero : Ideal.ofBits .f32 0x00000000#32 = ((0 : ℝ) : EReal) := by
  simp [Ideal.ofBits, Ideal.ieee, -EReal.coe_mul]

theorem word_one : Ideal.ofBits .f32 0x3F800000#32 = ((1 : ℝ) : EReal) := by
  simp [Ideal.ofBits, Ideal.ieee, -EReal.coe_mul]; norm_num

theorem word_half : Ideal.ofBits .f32 0x3F000000#32 = ((2⁻¹ : ℝ) : EReal) := by
  simp [Ideal.ofBits, Ideal.ieee, -EReal.coe_mul]; norm_num

theorem word_127 : Ideal.ofBits .f32 0x42FE0000#32 = ((127 : ℝ) : EReal) := by
  simp [Ideal.ofBits, Ideal.ieee, -EReal.coe_mul]; norm_num

theorem word_bot : Ideal.ofBits .f32 0xFF800000#32 = ⊥ := by
  simp [Ideal.ofBits, Ideal.ieee, -EReal.coe_mul]

/-- The least scale, a positive number. -/
def least : ℝ := 11258999 / 2 ^ 50

theorem least_pos : 0 < least := by norm_num [least]

theorem word_least : Ideal.ofBits .f32 0x322BCC77#32 = ((least : ℝ) : EReal) := by
  simp [Ideal.ofBits, Ideal.ieee, -EReal.coe_mul, least]; norm_num

/-- The reference's three literals sum to the ratio. -/
theorem words_ratio : Ideal.ofBits .f32 0x3F80F944#32 + Ideal.ofBits .f32 0xB376B5A9#32 + Ideal.ofBits .f32 0xA6A00000#32
    = ((ratio : ℝ) : EReal) := by
  simp [Ideal.ofBits, Ideal.ieee, -EReal.coe_mul, ← EReal.coe_add, ratio]; norm_num
  rw [← EReal.coe_neg, ← EReal.coe_neg, ← EReal.coe_add, ← EReal.coe_add]
  exact congrArg _ (by norm_num)

/-! ## The named constants -/

open Cert.KernelIdeal

theorem named_d : Named.named (F := Ideal) κ "d" (φ := .f32) 0x3FCF1BBD#32 = ((den ratio : ℝ) : EReal) := by
  rw [IdealRules.named_const.ideal_named_scalar _ _ _ _ rfl]
  exact congrArg _ (by norm_num [den, ratio])

theorem named_inv_lnr : Named.named (F := Ideal) κ "inv_lnr" (φ := .f32) 0x4303F562#32 = (((Real.log ratio)⁻¹ : ℝ) : EReal) :=
  IdealRules.named_const.ideal_named_scalar _ _ _ _ rfl

theorem named_lnr : Named.named (F := Ideal) κ "lnr" (φ := .f32) 0x3BF8520A#32 = ((Real.log ratio : ℝ) : EReal) :=
  IdealRules.named_const.ideal_named_scalar _ _ _ _ rfl

theorem named_a : Named.named (F := Ideal) κ "a" (φ := .f32) 0x3F1ED187#32 = (((1 + ratio) / (2 * den ratio) : ℝ) : EReal) := by
  rw [IdealRules.named_const.ideal_named_scalar _ _ _ _ rfl]
  exact congrArg _ (by norm_num [den, ratio])

theorem named_c : Named.named (F := Ideal) κ "c" (φ := .f32) 0x3F1E377A#32 = ((1 / den ratio : ℝ) : EReal) := by
  rw [IdealRules.named_const.ideal_named_scalar _ _ _ _ rfl]
  exact congrArg _ (by norm_num [den, ratio])

theorem named_mtop : Named.named (F := Ideal) κ "mtop" (φ := .f32) 0x3F80C823#32
    = ((3 / 2 - (ratio ^ 126 - 1) / (2 * den ratio) : ℝ) : EReal) := by
  rw [IdealRules.named_const.ideal_named_scalar _ _ _ _ rfl]
  exact congrArg _ (by norm_num [den, ratio])

end Cert.Consts

end
-- ==== Proof.Closed.lean ====
/-
  One element of the result over the extended reals. The second kernel's arithmetic on an element is the closed
  form `quant`; whatever the largest absolute value of the input is, an infinity included, the kernel's value
  is the reference's.
-/
module

public import proofs.«01_k».proof.Proof.Consts
public import proofs.«01_k».proof.Proof.Gen.KernelIdeal.Skeleton
public import Idealize.ShloMosaic.Lib.Pipeline.Value
public import Idealize.ShloMosaic.Lib.Pointwise

@[expose] public section

set_option maxRecDepth 16384

noncomputable section

namespace Cert.Closed

open Idealize.ShloMosaic Cert.Golden Cert.Consts Cert.KernelIdeal Cert.KernelIdeal.Gen

/-! ## The kernel's arithmetic on a real number -/

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem coe_absf (V : ℝ) : FloatOps.absf (F := Ideal) (φ := .f32) (V : EReal) = ((|V| : ℝ) : EReal) := by
  show max (V : EReal) (-(V : EReal)) = _
  rw [← EReal.coe_neg, ← coe_max]; rfl

/-- The logarithm the kernel takes is the position of `V`. -/
theorem coe_pos (V : ℝ) :
    Ideal.log (FloatOps.absf (F := Ideal) (φ := .f32) (V : EReal) * ((den ratio : ℝ) : EReal) + 1) * (((Real.log ratio)⁻¹ : ℝ) : EReal)
      = ((pos ratio V : ℝ) : EReal) := by
  rw [coe_absf, ← EReal.coe_mul, ← EReal.coe_one, ← EReal.coe_add, Ideal.log_coe,
    if_neg (not_le.2 (arg_pos one_lt_ratio V)), ← EReal.coe_mul, pos]

/-- The clipped number of buckets. -/
theorem coe_steps (V : ℝ) :
    min ((127 : ℝ) : EReal) (max 0 (if 0 < (V : EReal) then Ideal.liftRound Int.ceil ((pos ratio V : ℝ) : EReal) - 1
      else Ideal.liftRound Int.floor ((pos ratio V : ℝ) : EReal))) = ((steps ratio V : ℝ) : EReal) := by
  unfold steps
  rw [Ideal.liftRound_coe, Ideal.liftRound_coe, coe_min, coe_max]
  by_cases h : 0 < V
  · rw [if_pos h, if_pos (EReal.coe_pos.2 h), EReal.coe_sub, EReal.coe_one, EReal.coe_zero]
  · rw [if_neg h, if_neg (fun h' => h (EReal.coe_pos.1 h')), EReal.coe_zero]

/-- The magnitude of the replacement value. -/
theorem coe_mag (j : ℝ) :
    (if (j : EReal) = ((127 : ℝ) : EReal) then ((3 / 2 - (ratio ^ 126 - 1) / (2 * den ratio) : ℝ) : EReal)
      else Ideal.exp ((j : EReal) * ((Real.log ratio : ℝ) : EReal)) * (((1 + ratio) / (2 * den ratio) : ℝ) : EReal)
        - ((1 / den ratio : ℝ) : EReal)) = ((mag ratio j : ℝ) : EReal) := by
  unfold mag
  by_cases h : j = 127
  · rw [if_pos h, if_pos (by rw [h])]
  · rw [if_neg h, if_neg (fun h' => h (EReal.coe_eq_coe_iff.1 h')), ← EReal.coe_mul, Ideal.exp_coe, ← EReal.coe_mul, ← EReal.coe_sub]

/-- The element the second kernel computes before the last product, where the scaled element is a real number. -/
theorem pay3_apply (s : EReal) (x : Vec Ideal S256x4096 .f32) (j : S256x4096.Idx) (V : ℝ)
    (hV : x j * Ideal.div 1 (max s least) = (V : EReal)) :
    k1_pay3 (F := Ideal) s x j = ((quant ratio V : ℝ) : EReal) := by
  unfold k1_pay3 k1_pay2
  idx_vars j
  pointwise
  simp only [named_d, named_inv_lnr, named_lnr, named_a, named_c, named_mtop, word_127, word_least, hV, coe_pos, coe_steps, coe_mag]
  unfold quant
  by_cases h : 0 < V
  · rw [if_pos h, if_pos (EReal.coe_pos.2 h)]
  · rw [if_neg h, if_neg (fun h' => h (EReal.coe_pos.1 h')), EReal.coe_sub, EReal.coe_zero]

/-! ## The element and the scale -/

/-- The replacement value of the bucket of a scaled element. -/
def table (w : EReal) : EReal := ((rep ratio (bucket ratio w.toReal) : ℝ) : EReal)

/-- Either the scale is infinite, or the scale and the element are real numbers. -/
theorem scale_cases (M x : EReal) (hx : max x (-x) ≤ M) :
    max M least = ⊤ ∨ ∃ s r : ℝ, 0 < s ∧ max M least = (s : EReal) ∧ x = (r : EReal) := by
  have h1 : x ≤ M := (le_max_left _ _).trans hx
  have h2 : -x ≤ M := (le_max_right _ _).trans hx
  induction M with
  | top => exact .inl (top_sup_eq _)
  | bot =>
    have ha : x = ⊥ := le_bot_iff.1 h1
    rw [ha] at h2
    simp at h2
  | coe M =>
    refine .inr ⟨max M least, x.toReal, lt_max_of_lt_right least_pos, (coe_max _ _).symm, (EReal.coe_toReal ?_ ?_).symm⟩
    · rintro rfl; simp at h1
    · rintro rfl; simp at h2

/-- The scaled element is a real number, the same by the kernel's reciprocal as by the reference's quotient. -/
theorem scaled (M x : EReal) (hx : max x (-x) ≤ M) :
    ∃ V : ℝ, x * Ideal.div 1 (max M least) = (V : EReal) ∧ Ideal.div x (max M least) = (V : EReal) := by
  rcases scale_cases M x hx with h | ⟨s, r, hs, h, rfl⟩
  · refine ⟨0, ?_, ?_⟩ <;> rw [h] <;> simp [Ideal.div]
  · refine ⟨r * (1 / s), ?_, ?_⟩ <;> rw [h, Ideal.div_coe hs.ne']
    · rw [one_mul, EReal.coe_mul]
    · rw [EReal.coe_mul]

/-- The kernel's element is the reference's: the replacement value times the scale, which the reference spells
    as the element plus its distance from it. -/
theorem element_eq (M x : EReal) (hx : max x (-x) ≤ M) (V : ℝ) (hV : Ideal.div x (max M least) = (V : EReal)) :
    ((quant ratio V : ℝ) : EReal) * max M least
      = x + (table (Ideal.div x (max M least)) * max M least - x) := by
  rw [table, hV, EReal.toReal_coe, ← quant_eq one_lt_ratio]
  rcases scale_cases M x hx with h | ⟨s, r, hs, h, rfl⟩
  · have h0 : V = 0 := by
      rw [h] at hV
      simp [Ideal.div] at hV
      exact EReal.coe_eq_zero.1 hV.symm
    have hq : quant ratio V < 0 := by rw [h0, quant_eq one_lt_ratio]; exact rep_zero_neg one_lt_ratio
    rw [h, EReal.coe_mul_top_of_neg hq, EReal.bot_sub, EReal.add_bot]
  · rw [h]
    rw [← EReal.coe_mul, ← EReal.coe_sub, ← EReal.coe_add]
    exact congrArg _ (by ring)

end Cert.Closed

end
-- ==== Proof.KernelIdeal.Amax.lean ====
/-
  What the first kernel leaves over the extended reals: the largest absolute value of the argument.
-/
module

public import proofs.«01_k».proof.Proof.KernelIdeal.Run
public import proofs.«01_k».proof.Proof.Closed
public import Idealize.ShloMosaic.PureOps.Ideal.Laws
public import Idealize.ShloMosaic.Lib.StableHlo.Run
public import Idealize.ShloMosaic.Lib.Pipeline.ValueKit.Geometry

@[expose] public section

set_option maxRecDepth 16384

noncomputable section

namespace Cert.KernelIdeal.Value

open Cert.KernelIdeal Cert.KernelIdeal.Gen Cert.KernelIdeal.Run Cert.Golden Cert.Consts
open Idealize.ShloMosaic Idealize.ShloMosaic.TcCoe Idealize.SL.Sem
open Idealize.ShloMosaic.Pipeline (Dat afterRegion)

/-- `M` is the least bound of the absolute values of `x`. -/
def Largest {ι : Type} (x : ι → EReal) (M : EReal) : Prop := ∀ b, M ≤ b ↔ ∀ i, max (x i) (-(x i)) ≤ b

theorem Largest.unique {ι : Type} {x : ι → EReal} {M M' : EReal} (h : Largest x M) (h' : Largest x M') : M = M' :=
  eq_of_forall_ge_iff fun b => (h b).trans (h' b).symm

/-! ## The first kernel -/

/-- A reshape keeps the set of elements. -/
theorem forall_shapeCast {s t : Shape} {α : Type} (x : s.Idx → α) (h : s.ShapeCasts t) (P : α → Prop) :
    (∀ i, P (shapeCast t x h i)) ↔ ∀ j, P (x j) :=
  ⟨fun H j => by simpa [shapeCast] using H ((Shape.reshapeEquiv h).symm j), fun H i => H _⟩

/-- The kernel's reduction of a block, at the only index of its result. -/
theorem pay1_eq (x : Vec Ideal S512x4096 .f32) : ∃ j : S1.Idx, k0_pay1 (F := Ideal) x
    = multiReduction (F := Ideal) (φ := .f32) .maximumf [1, 2] S1 (shapeCast S1x512x4096 (absf x) shapeCasts_S512x4096_S1x512x4096)
      0xFF800000#32 reduces_S1x512x4096_S1 (.inl rfl) rfl j :=
  ⟨Shape.reshapeEquiv shapeCasts_S1_S1x1x1 (fun a => ⟨![0, 0, 0] a, inpos_S1x1x1_p0_0_0 a⟩), by
    unfold k0_pay1; dsimp only; rw [shapeCast_self]; rfl⟩

set_option backward.isDefEq.respectTransparency false in
/-- One block's largest absolute value. -/
theorem pay1_largest (x : Vec Ideal S512x4096 .f32) : Largest x (k0_pay1 (F := Ideal) x) := by
  intro b
  obtain ⟨j, e⟩ := pay1_eq x
  rw [e]
  rw [multiReduction_maximumf_eq_fold]
  rw [show (FloatOps.ofBits (F := Ideal) .f32 0xFF800000#32) = ⊥ from word_bot]
  refine (Finset.fold_max_le (β := EReal) b).trans (Iff.trans ?_
    (forall_shapeCast (α := EReal) (fun i => max (x i) (-(x i))) shapeCasts_S512x4096_S1x512x4096 (fun v => v ≤ b)))
  have hs : ∀ i j : S1.Idx, i = j := fun i j => funext fun a => Fin.ext (by
    have h1 := (i a).isLt; have h2 := (j a).isLt
    fin_cases a; simp only [S1, Matrix.cons_val_zero, Fin.zero_eta] at h1 h2 ⊢; omega)
  exact ⟨fun h i => h.2 i (Finset.mem_filter.2 ⟨Finset.mem_univ _, hs _ _⟩), fun h => ⟨bot_le, fun i _ => h i⟩⟩

variable (m : (ℓ : Loc nD τ sig) → Buf (Elt Ideal) ℓ) (c : Dev nD)

/-- The blocks up to and including block `n`, bounded together. -/
theorem acc_le (V : Valuation τ sig (Elt Ideal)) (b : EReal) : ∀ (n : ℕ) (hn : n < cfg0.N),
    acc (F := Ideal) V n hn ≤ b ↔ ∀ t : Fin cfg0.N, t.val ≤ n → ∀ j, max (rows (F := Ideal) V t j) (-(rows (F := Ideal) V t j)) ≤ b
  | 0, hn => by
    rw [acc, pay1_largest _ b]
    constructor
    · intro h t ht j
      obtain rfl : t = ⟨0, hn⟩ := Fin.ext (Nat.le_zero.1 ht)
      exact h j
    · intro h j; exact h ⟨0, hn⟩ le_rfl j
  | n + 1, hn => by
    rw [acc]
    show max (acc (F := Ideal) V n _ : EReal) (k0_pay1 (F := Ideal) _) ≤ b ↔ _
    rw [max_le_iff, acc_le V b n, pay1_largest _ b]
    constructor
    · rintro ⟨h1, h2⟩ t ht j
      rcases Nat.lt_or_ge n t.val with h | h
      · obtain rfl : t = ⟨n + 1, hn⟩ := Fin.ext (by simp only; omega)
        exact h2 j
      · exact h1 t h j
    · intro h
      exact ⟨fun t ht => h t (by omega), h ⟨n + 1, hn⟩ le_rfl⟩

theorem index0 : ∀ t : Fin grid0.N, win0_0.index t = ![t.val, 0] := by decide +kernel

/-- An element of a block of 512 rows is an element of the array. -/
theorem rows_apply (V : Valuation τ sig (Elt Ideal)) (t : Fin cfg0.N) (j : S512x4096.Idx) :
    rows (F := Ideal) V t j = V (Proc.devRef .tc main_v0) (((cfg0.win 0).blk t).view.emb j) := rfl

/-- Every element lies in one of the 32 blocks of 512 rows. -/
theorem forall_rows (V : Valuation τ sig (Elt Ideal)) (P : EReal → Prop) :
    (∀ t : Fin cfg0.N, ∀ j, P (rows (F := Ideal) V t j)) ↔ ∀ i : S16384x4096.Idx, P (V (Proc.devRef .tc main_v0) i) := by
  constructor
  · intro h i
    have hN : cfg0.N = 32 := N_0
    have h0 : (i 0 : ℕ) < 16384 := (i 0).isLt
    have h1 : (i 1 : ℕ) < 4096 := (i 1).isLt
    have ht : (i 0 : ℕ) / 512 < cfg0.N := by omega
    let j : S512x4096.Idx := fun a => match a with
      | ⟨0, _⟩ => ⟨(i 0 : ℕ) % 512, Nat.mod_lt _ (by decide)⟩
      | ⟨1, _⟩ => ⟨(i 1 : ℕ), h1⟩
    have e : ((cfg0.win 0).blk ⟨(i 0 : ℕ) / 512, ht⟩).view.emb j = i := by
      have e0 : (j 0 : ℕ) = (i 0 : ℕ) % 512 := rfl
      have e1 : (j 1 : ℕ) = (i 1 : ℕ) := rfl
      blk_ext [index0] <;> omega
    have h2 := h ⟨(i 0 : ℕ) / 512, ht⟩ j
    rw [rows_apply, e] at h2
    exact h2
  · intro h t j
    exact h _

/-- The argument, as the program is launched with it. -/
abbrev arg : Vec Ideal S2x8192x4096 .f32 := m ((c : Thread nD τ).loc main_arg0)

/-- After the first reshape: the argument as 16384 rows. -/
theorem U1_rows : U1 m c (Proc.devRef .tc main_v0) = shapeCast S16384x4096 (arg m c) shapeCasts_S2x8192x4096_S16384x4096 := by
  show StableHlo.after hostOps0 _ (Proc.devRef .tc main_v0) = _
  rw [hostOps0, StableHlo.after_cons, StableHlo.after_nil, StableHlo.reshape_result']
  rfl

/-- The last point of the first grid. -/
theorem last0_lt : 31 < cfg0.N := by rw [show cfg0.N = 32 from N_0]; decide

/-- The largest absolute value of the argument, as the first kernel leaves it. -/
def amax : EReal := acc (F := Ideal) (U1 m c) 31 last0_lt

theorem amax_largest : Largest (arg m c) (amax m c) := by
  intro b
  rw [amax, acc_le]
  have hN : cfg0.N = 32 := N_0
  refine Iff.trans ⟨fun h t j => h t (by have := t.isLt; omega) j, fun h t _ j => h t j⟩
    ((forall_rows (U1 m c) (fun x => max x (-x) ≤ b)).trans ?_)
  rw [U1_rows]
  exact forall_shapeCast (arg m c) _ (fun x => max x (-x) ≤ b)

/-- The scalar cell after the first kernel, from what its last point leaves. -/
theorem arr_cell (V : Dev nD → Valuation τ sig (Elt Ideal)) (A : EReal)
    (hA : (dat0 V c).after 1 ⟨31, last0_lt⟩ = fun _ => A) : (dat0 V c).arrAt 1 cfg0.N = fun _ => A := by
  refine (dat0 V c).arrAt_eq_of_after_last 1 ⟨31, last0_lt⟩ (by decide +kernel) _ fun j => ?_
  rw [hA]
  rfl

/-- After the first kernel the scalar cell holds the largest absolute value. -/
theorem U2_cell : U2 m c (Proc.devRef .tc main_v1) = fun _ => amax m c :=
  (Pipeline.afterRegion_arr (dat0 (U1 m) c) (U1 m c) winFacts0.arr_inj 1).trans
    (arr_cell c (U1 m) (amax m c) (after_eq (U1 m) c 31 last0_lt))

end Cert.KernelIdeal.Value

end
-- ==== Proof.KernelIdeal.Value.lean ====
/-
  What the program's result holds over the extended reals: every element of the result is the closed form of its
  element times the scale.
-/
module

public import proofs.«01_k».proof.Proof.KernelIdeal.Amax

@[expose] public section

set_option maxRecDepth 16384

noncomputable section

namespace Cert.KernelIdeal.Value

open Cert.KernelIdeal Cert.KernelIdeal.Gen Cert.KernelIdeal.Run Cert.Golden Cert.Consts
open Idealize.ShloMosaic Idealize.ShloMosaic.TcCoe Idealize.SL.Sem
open Idealize.ShloMosaic.Pipeline (Dat afterRegion)

variable (m : (ℓ : Loc nD τ sig) → Buf (Elt Ideal) ℓ) (c : Dev nD)

theorem index1 : ∀ t : Fin grid1.N, win1_1.index t = win1_2.index t := by decide +kernel

/-- The second kernel reads and writes its blocks at the same rows. -/
theorem same_rows (t : Fin cfg1.N) (j : S256x4096.Idx) :
    ((cfg1.win 1).blk t).view.emb j = ((cfg1.win 2).blk t).view.emb j := by
  blk_ext [index1]

/-- The closed form of an element, stated as a property of the element and of what stands in its place. -/
def Quantised (M x v : EReal) : Prop :=
  ∀ V : ℝ, x * Ideal.div 1 (max M least) = (V : EReal) → v = ((quant ratio V : ℝ) : EReal) * max M least

theorem pay1_apply (s : EReal) (x : Vec Ideal S256x4096 .f32) (j : S256x4096.Idx) :
    k1_pay1 (F := Ideal) s x j = (x j : EReal) * s := rfl

theorem pay2_apply (s : EReal) : k1_pay2 (F := Ideal) s = max s least := by
  rw [← word_least]
  rfl

/-- What the second kernel writes for an element. -/
theorem quantised_apply (s : EReal) (x : Vec Ideal S256x4096 .f32) (j : S256x4096.Idx) :
    Quantised s (x j) (quantised (F := Ideal) s x j) := by
  intro V hV
  have h := Closed.pay3_apply s x j V hV
  rw [quantised, pay1_apply, pay2_apply, h]

/-- The cell the second kernel fetches is the whole cell. -/
theorem cell_eq (V : Valuation τ sig (Elt Ideal)) (M : EReal) (hM : V (Proc.devRef .tc main_v1) = fun _ => M)
    (t : Fin cfg1.N) : cell (F := Ideal) V t = fun _ => M := by
  unfold cell
  rw [hM]
  rfl

/-- An element of a block of 256 rows is an element of the array. -/
theorem rows'_apply (V : Valuation τ sig (Elt Ideal)) (t : Fin cfg1.N) (j : S256x4096.Idx) :
    rows' (F := Ideal) V t j = V (Proc.devRef .tc main_v0) (((cfg1.win 1).blk t).view.emb j) := rfl

/-- What stands in the output buffer after a point. -/
theorem after2_eq (V : Dev nD → Valuation τ sig (Elt Ideal)) (t : Fin cfg1.N) :
    (dat1 V c).after 2 t = quantised (F := Ideal) (cell (V c) t origin) (rows' (V c) t) := rfl

/-- The second kernel's array, from the rows and the scalar it reads. -/
theorem arr_quantised (V : Dev nD → Valuation τ sig (Elt Ideal)) (M : EReal)
    (hM : V c (Proc.devRef .tc main_v1) = fun _ => M) (i : S16384x4096.Idx) :
    Quantised M (V c (Proc.devRef .tc main_v0) i) ((dat1 V c).arrAt 2 cfg1.N i) := by
  refine (dat1 V c).arrAt_forall_of_covers 2 (fun i v => Quantised M (V c (Proc.devRef .tc main_v0) i) v)
    (by decide +kernel) (fun t hf y => ?_) i
  have h := quantised_apply M (rows' (F := Ideal) (V c) t) y
  rw [rows'_apply, same_rows] at h
  rw [after2_eq, cell_eq (V c) M hM]
  exact h

/-- Every element of the second kernel's result. -/
theorem U3_apply (i : S16384x4096.Idx) :
    Quantised (amax m c) (U1 m c (Proc.devRef .tc main_v0) i) (U3 m c (Proc.devRef .tc main_v2) i) := by
  have h := arr_quantised c (U2 m) (amax m c) (U2_cell m c) i
  rw [U2_of c m main_v0 (by decide)] at h
  have e : U3 m c (Proc.devRef .tc main_v2) = (dat1 (U2 m) c).arrAt 2 cfg1.N :=
    Pipeline.afterRegion_arr (dat1 (U2 m) c) (U2 m c) winFacts1.arr_inj 2
  rw [e]
  exact h

/-- After the last reshape: the rows in the argument's shape. -/
theorem U4_result : U4 m c (Proc.devRef .tc main_v3)
    = shapeCast S2x8192x4096 (U3 m c (Proc.devRef .tc main_v2)) shapeCasts_S16384x4096_S2x8192x4096 := by
  show StableHlo.after hostOps2 _ (Proc.devRef .tc main_v3) = _
  rw [hostOps2, StableHlo.after_cons, StableHlo.after_nil, StableHlo.reshape_result']
  rfl

/-- Every element of the program's result is the closed form of the argument's element. -/
theorem result_apply (i : S2x8192x4096.Idx) :
    Quantised (amax m c) (arg m c i) (U4 m c (Proc.devRef .tc main_v3) i) := by
  have h := U3_apply m c (Shape.reshapeEquiv shapeCasts_S16384x4096_S2x8192x4096 i)
  rw [U1_rows] at h
  rw [U4_result]
  have e : shapeCast S2x8192x4096 (shapeCast S16384x4096 (arg m c) shapeCasts_S2x8192x4096_S16384x4096)
      shapeCasts_S16384x4096_S2x8192x4096 i = arg m c i := by
    rw [shapeCast_shapeCast]
  rw [← e]
  exact h

/-- The program's result, element by element: the argument's element plus its rounding error. -/
theorem result_eq (i : S2x8192x4096.Idx) : U4 m c (Proc.devRef .tc main_v3) i
    = (arg m c i : EReal) + (Closed.table (Ideal.div (arg m c i) (max (amax m c) least)) * max (amax m c) least - arg m c i) := by
  have hx : max (arg m c i : EReal) (-(arg m c i)) ≤ amax m c := (amax_largest m c _).1 le_rfl i
  obtain ⟨V, hV, hD⟩ := Closed.scaled (amax m c) (arg m c i) hx
  exact (result_apply m c i V hV).trans (Closed.element_eq (amax m c) (arg m c i) hx V hD)

end Cert.KernelIdeal.Value

end
-- ==== Proof.ReferenceIdeal.Stages.lean ====
/-
  The reference's result, cut into the stages its source has: the running sums of the widths, the positive
  boundaries, all boundaries, the boundaries with one more on either side, the replacement values, the scale, the
  scaled elements, the number of boundaries below each, the look-up, and the result.
-/
module

public import proofs.«01_k».proof.Proof.Gen.ReferenceIdeal.Run
public import Idealize.ShloMosaic.PureOps.Ideal

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

/-- The ratio of neighbouring widths, the sum of three literals. -/
def ratio : FVec Ideal S_ .f32 := addf (addf (constant S_ .f32 0x3F80F944#32) (constant S_ .f32 0xB376B5A9#32)) (constant S_ .f32 0xA6A00000#32)

/-- The widths: the powers of the ratio. -/
def widths : FVec Ideal S127 .f32 := Host.powf (broadcastInDim S127 ![] bcast_S_S127 ratio) (sitofp .f32 (iotaInDim S127 32 0))

/-- The running sums of the widths. -/
def sums (w : FVec Ideal S127 .f32) : FVec Ideal S127 .f32 :=
  Host.reduceWindowAdd ![127] ![1] ![126] ![0] w (broadcastInDim S_ ![] bcast_S_S_ (constant S_ .f32 0x00000000#32)) reduceWindows_S127_S127_w127s1p126_0 h_S_

/-- The positive boundaries: the running sums over the last of them. -/
def edge (s : FVec Ideal S127 .f32) : FVec Ideal S127 .f32 :=
  mulf s (broadcastInDim S127 ![] bcast_S_S127 (Host.divf (constant S_ .f32 0x3F800000#32) (shapeCast _ (extractStridedSlice S1 ![126] s slices_S127_S1_126) shapeCasts_S1_S_)))

/-- All boundaries: the negative ones, zero, the positive ones. -/
def bounds (e : FVec Ideal S127 .f32) : FVec Ideal S255 .f32 :=
  concatenate S255 0 [⟨S127, ((Host.negf (Host.reverse [0] e)) : (⟨S127, .f32⟩ : BufTy).Contents (Elt Ideal))⟩, ⟨S1, ((broadcastInDim S1 ![] bcast_S_S1 (constant (F := Ideal) S_ .f32 0x00000000#32)) : (⟨S1, .f32⟩ : BufTy).Contents (Elt Ideal))⟩, ⟨S127, (e : (⟨S127, .f32⟩ : BufTy).Contents (Elt Ideal))⟩] concatenates_S127_S1_S127_S255_d0

/-- The boundary below the lowest. -/
def low (b : FVec Ideal S255 .f32) : FVec Ideal S1 .f32 :=
  subf (extractStridedSlice S1 ![0] b slices_S255_S1_0) (broadcastInDim S1 ![] bcast_S_S1 (subf (shapeCast _ (extractStridedSlice S1 ![1] b slices_S255_S1_1) shapeCasts_S1_S_) (shapeCast _ (extractStridedSlice S1 ![0] b slices_S255_S1_0) shapeCasts_S1_S_)))

/-- The boundary above the highest. -/
def high (b : FVec Ideal S255 .f32) : FVec Ideal S1 .f32 :=
  addf (extractStridedSlice S1 ![254] b slices_S255_S1_254) (broadcastInDim S1 ![] bcast_S_S1 (subf (shapeCast _ (extractStridedSlice S1 ![254] b slices_S255_S1_254) shapeCasts_S1_S_) (shapeCast _ (extractStridedSlice S1 ![253] b slices_S255_S1_253) shapeCasts_S1_S_)))

/-- The boundaries with one more on either side. -/
def padded (l : FVec Ideal S1 .f32) (b : FVec Ideal S255 .f32) (h : FVec Ideal S1 .f32) : FVec Ideal S257 .f32 :=
  concatenate S257 0 [⟨S1, (l : (⟨S1, .f32⟩ : BufTy).Contents (Elt Ideal))⟩, ⟨S255, (b : (⟨S255, .f32⟩ : BufTy).Contents (Elt Ideal))⟩, ⟨S1, (h : (⟨S1, .f32⟩ : BufTy).Contents (Elt Ideal))⟩] concatenates_S1_S255_S1_S257_d0

/-- The replacement values: the middles of neighbouring boundaries. -/
def reps (p : FVec Ideal S257 .f32) : FVec Ideal S256 .f32 :=
  mulf (broadcastInDim S256 ![] bcast_S_S256 (constant S_ .f32 0x3F000000#32)) (addf (extractStridedSlice S256 ![0] p slices_S257_S256_0) (extractStridedSlice S256 ![1] p slices_S257_S256_1))

/-- The scale: the largest absolute value, at least the least scale. -/
def scale (x : FVec Ideal S2x8192x4096 .f32) : FVec Ideal S_ .f32 :=
  maximumf (Host.reduce FloatOps.maximumf (Host.absf x) (constant S_ .f32 0xFF800000#32) reducesTo_S2x8192x4096_S_d0_1_2 h_S_) (constant S_ .f32 0x322BCC77#32)

/-- The elements over the scale. -/
def scaled (x : FVec Ideal S2x8192x4096 .f32) (s : FVec Ideal S_ .f32) : FVec Ideal S2x8192x4096 .f32 :=
  Host.divf x (broadcastInDim S2x8192x4096 ![] bcast_S_S2x8192x4096 s)

/-- Which boundaries lie below which elements. -/
def below (b : FVec Ideal S255 .f32) (v : FVec Ideal S2x8192x4096 .f32) : IVec S2x8192x4096x255 1 :=
  cmpf .olt (broadcastInDim S2x8192x4096x255 ![0, 1, 2, 3] bcast_S1x1x1x255_S2x8192x4096x255_0_1_2_3 (broadcastInDim S1x1x1x255 ![3] bcast_S255_S1x1x1x255_3 b)) (broadcastInDim S2x8192x4096x255 ![0, 1, 2, 3] bcast_S2x8192x4096x1_S2x8192x4096x255_0_1_2_3 (broadcastInDim S2x8192x4096x1 ![0, 1, 2] bcast_S2x8192x4096_S2x8192x4096x1_0_1_2 v))

/-- The number of boundaries below each element. -/
def counts (q : IVec S2x8192x4096x255 1) : IVec S2x8192x4096 32 :=
  Host.reduce IntOp.addi (extui 32 q natLt_1_32) (constantI S_ 32 0#32) reducesTo_S2x8192x4096x255_S2x8192x4096_d3 h_S_

/-- The look-up's positions: a negative one counted from the end. -/
def chosen (n : IVec S2x8192x4096 32) : IVec S2x8192x4096x1 32 :=
  broadcastInDim S2x8192x4096x1 ![0, 1, 2] bcast_S2x8192x4096_S2x8192x4096x1_0_1_2 (select (cmpi .slt n (broadcastInDim S2x8192x4096 ![] bcast_S_S2x8192x4096 (constantI S_ 32 0#32))) (addi n (broadcastInDim S2x8192x4096 ![] bcast_S_S2x8192x4096 (constantI S_ 32 256#32))) n)

/-- Which positions lie in the table. -/
def inside (k : IVec S2x8192x4096x1 32) : IVec S2x8192x4096 1 :=
  Host.reduce IntOp.andi (andi (cmpi .sge k (broadcastInDim S2x8192x4096x1 ![] bcast_S_S2x8192x4096x1 (constantI S_ 32 0#32))) (cmpi .sle k (broadcastInDim S2x8192x4096x1 ![0, 1, 2, 3] bcast_S1x1x1x1_S2x8192x4096x1_0_1_2_3 (broadcastInDim S1x1x1x1 ![3] bcast_S1_S1x1x1x1_3 (constantI S1 32 255#32))))) (constantI S_ 1 1#1) reducesTo_S2x8192x4096x1_S2x8192x4096_d3 h_S_

/-- The table's values at the positions. -/
def taken (t : FVec Ideal S256 .f32) (k : IVec S2x8192x4096x1 32) : FVec Ideal S2x8192x4096 .f32 :=
  Host.gather gather_S256_S2x8192x4096x1_S2x8192x4096_n_0_n_n_0_3_1 t k

/-- The look-up: a position outside the table gives no number. -/
def looked (q : IVec S2x8192x4096 1) (v : FVec Ideal S2x8192x4096 .f32) : FVec Ideal S2x8192x4096 .f32 :=
  select q v (broadcastInDim S2x8192x4096 ![] bcast_S_S2x8192x4096 (constant S_ .f32 0x7FC00000#32))

/-- The result: the element plus its rounding error. -/
def result (x v : FVec Ideal S2x8192x4096 .f32) (s : FVec Ideal S_ .f32) : FVec Ideal S2x8192x4096 .f32 :=
  addf x (subf (mulf v (broadcastInDim S2x8192x4096 ![] bcast_S_S2x8192x4096 s)) x)

/-- The boundaries' values. -/
def allBounds : FVec Ideal S255 .f32 := bounds (edge (sums widths))

/-- The table's values. -/
def allReps : FVec Ideal S256 .f32 := reps (padded (low allBounds) allBounds (high allBounds))

/-- The positions of the elements in the table. -/
def positions (x : FVec Ideal S2x8192x4096 .f32) : IVec S2x8192x4096x1 32 :=
  chosen (counts (below allBounds (scaled x (scale x))))

/-- The stages put together. -/
def whole (x : FVec Ideal S2x8192x4096 .f32) : FVec Ideal S2x8192x4096 .f32 :=
  result x (looked (inside (positions x)) (taken allReps (positions x))) (scale x)

/-- The reference's result is the stages put together. -/
theorem res_eq (m : (ℓ : Loc nD τ sig) → Buf (Elt Ideal) ℓ) (c : Dev nD) :
    Value.res_main_v54 (F := Ideal) m c = whole (m ((c.tc : Thread nD τ).loc main_arg0)) := by
  unfold Value.res_main_v54 whole positions allReps allBounds result looked taken inside chosen counts below scaled scale
    reps padded low high bounds edge sums widths ratio
  rfl

end Cert.ReferenceIdeal.Stages

end
-- ==== Proof.ReferenceIdeal.Tables.lean ====
/-
  The reference's two tables over the extended reals: its boundaries are the real boundaries of the quantiser, its
  replacement values the real replacement values.
-/
module

public import proofs.«01_k».proof.Proof.ReferenceIdeal.Stages
public import proofs.«01_k».proof.Proof.Closed
public import Idealize.ShloMosaic.Lib.Pointwise

@[expose] public section

set_option maxRecDepth 16384

noncomputable section

namespace Cert.ReferenceIdeal.Tables

open Cert.ReferenceIdeal Cert.ReferenceIdeal.Gen Cert.Golden Cert.Consts
open Idealize.ShloMosaic

/-- The ratio's one element. -/
theorem ratio_apply (j : S_.Idx) : Stages.ratio j = ((ratio : ℝ) : EReal) := words_ratio

/-- Width `k` is the ratio to the power `k`. -/
theorem widths_apply (k : S127.Idx) : Stages.widths k = ((ratio ^ (k 0 : ℕ) : ℝ) : EReal) := by
  unfold Stages.widths
  idx_vars k
  pointwise
  have hk : (BitVec.ofNat 32 (k0 : ℕ)).toInt = (k0 : ℕ) := by
    have := k0.isLt
    rw [BitVec.toInt_eq_toNat_of_lt] <;> rw [BitVec.toNat_ofNat, Nat.mod_eq_of_lt (by omega)]
    omega
  rw [ratio_apply]
  show Ideal.pow _ ((((BitVec.ofNat 32 (k0 : ℕ)).toInt : ℝ)) : EReal) = ((ratio ^ (k0 : ℕ) : ℝ) : EReal)
  rw [hk, Ideal.pow_coe_coe, Int.cast_natCast]
  exact congrArg _ (Real.rpow_natCast _ _)

/-- A left fold of additions over real terms is the sum. -/
theorem foldl_coe {ι : Type} (l : List ι) (g : ι → EReal) (f : ι → ℝ) (h : ∀ n, g n = ((f n : ℝ) : EReal)) (v : ℝ) :
    l.foldl (fun r n => r + g n) ((v : ℝ) : EReal) = ((v + (l.map f).sum : ℝ) : EReal) := by
  induction l generalizing v with
  | nil => simp
  | cons a l ih => rw [List.foldl_cons, h, ← EReal.coe_add, ih, List.map_cons, List.sum_cons, add_assoc]

/-- The terms of a window that reaches back to the start are the first `k + 1` terms. -/
theorem sum_back (f : ℕ → ℝ) (k : ℕ) (hk : k ≤ 126) :
    ∑ n ∈ Finset.range 127, (if 126 ≤ k + n then f (k + n - 126) else 0) = ∑ i ∈ Finset.range (k + 1), f i := by
  obtain ⟨d, hd⟩ : ∃ d, 126 = k + d := ⟨126 - k, by omega⟩
  rw [show 127 = d + (k + 1) by omega, Finset.sum_range_add, Finset.sum_eq_zero, zero_add]
  · refine Finset.sum_congr rfl fun i _ => ?_
    rw [if_pos (by omega)]
    congr 1
    omega
  · intro i hi
    rw [if_neg (by have := Finset.mem_range.1 hi; omega)]

/-- The running sums, of real widths. -/
theorem sums_apply (w : FVec Ideal S127 .f32) (f : ℕ → ℝ) (hw : ∀ k : S127.Idx, w k = ((f (k 0) : ℝ) : EReal)) (k : S127.Idx) :
    Stages.sums w k = ((∑ i ∈ Finset.range ((k 0 : ℕ) + 1), f i : ℝ) : EReal) := by
  have hk : (k 0 : ℕ) < 127 := (k 0).isLt
  have hn : (⟨1, ![127]⟩ : Shape).numel = 127 := Shape.numel_rank1 _
  have hs : ∀ n : Fin (⟨1, ![127]⟩ : Shape).numel, ((⟨1, ![127]⟩ : Shape).rowMajor.symm n 0).val = n.val := fun n => by
    have := Shape.rowMajor_val_one ((⟨1, ![127]⟩ : Shape).rowMajor.symm n)
    rw [Equiv.apply_symm_apply] at this
    exact this.symm
  have h0 : (broadcastInDim S_ ![] bcast_S_S_ (constant (F := Ideal) S_ .f32 0x00000000#32)) (Shape.Idx.first h_S_) = ((0 : ℝ) : EReal) := word_zero
  show Host.reduceWindow (· + ·) ![127] ![1] ![126] ![0] w
    (fun _ : (⟨0, ![]⟩ : Shape).Idx => (broadcastInDim S_ ![] bcast_S_S_ (constant (F := Ideal) S_ .f32 0x00000000#32)) (Shape.Idx.first h_S_)) reduceWindows_S127_S127_w127s1p126_0 (by decide) k = _
  rw [h0]
  unfold Host.reduceWindow
  refine (foldl_coe _ _ (fun n => if 126 ≤ (k 0 : ℕ) + n.val then f ((k 0 : ℕ) + n.val - 126) else 0) (fun n => ?_) 0).trans ?_
  · have hnl : n.val < 127 := n.isLt.trans_eq hn
    split
    · next hin =>
      have h1 := hin 0
      change 126 ≤ (k 0 : ℕ) * 1 + ((⟨1, ![127]⟩ : Shape).rowMajor.symm n 0).val
        ∧ (k 0 : ℕ) * 1 + ((⟨1, ![127]⟩ : Shape).rowMajor.symm n 0).val - 126 < 127 at h1
      rw [hs] at h1
      rw [if_pos (by omega), hw]
      refine congrArg (fun a => ((f a : ℝ) : EReal)) ?_
      show (k 0 : ℕ) * 1 + ((⟨1, ![127]⟩ : Shape).rowMajor.symm n 0).val - 126 = _
      rw [hs, Nat.mul_one]
    · next hin =>
      rw [if_neg fun hle => hin fun a => by
        match a with
        | ⟨0, _⟩ =>
          show 126 ≤ (k 0 : ℕ) * 1 + ((⟨1, ![127]⟩ : Shape).rowMajor.symm n 0).val
            ∧ (k 0 : ℕ) * 1 + ((⟨1, ![127]⟩ : Shape).rowMajor.symm n 0).val - 126 < 127
          rw [hs]
          omega]
  · rw [zero_add, ← sum_back f _ (by omega), ← Fin.sum_univ_def,
      ← Finset.sum_range (fun n => if 126 ≤ (k 0 : ℕ) + n then f ((k 0 : ℕ) + n - 126) else 0)]
    exact congrArg (fun N => ((∑ n ∈ Finset.range N, (if 126 ≤ (k 0 : ℕ) + n then f ((k 0 : ℕ) + n - 126) else 0) : ℝ) : EReal)) hn

/-- The positive boundaries. -/
theorem edge_apply (s : FVec Ideal S127 .f32) (f : ℕ → ℝ) (hs : ∀ k : S127.Idx, s k = ((f (k 0) : ℝ) : EReal)) (h : f 126 ≠ 0)
    (k : S127.Idx) : Stages.edge s k = ((f (k 0) * (1 / f 126) : ℝ) : EReal) := by
  unfold Stages.edge
  idx_vars k
  pointwise
  rw [hs, hs, show (ix1 (126 : Fin 127) 0 : ℕ) = 126 from rfl, Ideal.div_coe h, one_mul, EReal.coe_mul]
  rfl

/-- All boundaries. -/
theorem bounds_apply (e : FVec Ideal S127 .f32) (f : ℕ → ℝ) (he : ∀ k : S127.Idx, e k = ((f (k 0) : ℝ) : EReal)) (i : S255.Idx) :
    Stages.bounds e i = (((if (i 0 : ℕ) < 127 then -f (126 - i 0) else if (i 0 : ℕ) = 127 then 0 else f (i 0 - 128) : ℝ)) : EReal) := by
  have hi : (i 0 : ℕ) < 255 := (i 0).isLt
  unfold Stages.bounds
  split
  · next h =>
    refine Eq.trans (concatenate_apply_piece 0 _ _ i 0 (by simp) S127 _ rfl rfl 0 rfl (ix1 ⟨(i 0 : ℕ), h⟩)
      (fun b hb => absurd (Subsingleton.elim b 0) hb) (Nat.zero_add _)) ?_
    have e1 := he (ix1 ⟨126 - (i 0 : ℕ), by omega⟩)
    rw [EReal.coe_neg]
    refine congrArg (fun x : EReal => -x) (Eq.trans (congrArg e ?_) e1)
    funext a
    match a with
    | ⟨0, _⟩ =>
      refine Fin.ext ?_
      show (if (0 : Fin 1) ∈ [(0 : Fin 1)] then (Fin.rev ⟨(i 0 : ℕ), h⟩ : Fin 127) else ⟨(i 0 : ℕ), h⟩ : Fin 127).val = 126 - (i 0 : ℕ)
      rw [if_pos (List.mem_singleton.2 rfl), Fin.val_rev]
      show 127 - ((i 0 : ℕ) + 1) = _
      omega
  · next h =>
    split
    · next h' =>
      exact Eq.trans (concatenate_apply_piece 0 _ _ i 1 (by simp) S1 _ rfl rfl 127 rfl (ix1 ⟨0, by decide⟩)
        (fun b hb => absurd (Subsingleton.elim b 0) hb) h'.symm) word_zero
    · next h' =>
      exact Eq.trans (concatenate_apply_piece 0 _ _ i 2 (by simp) S127 _ rfl rfl 128 rfl (ix1 ⟨(i 0 : ℕ) - 128, by omega⟩)
        (fun b hb => absurd (Subsingleton.elim b 0) hb) (by show 128 + ((i 0 : ℕ) - 128) = _; omega)) (he _)

/-- The boundaries with one more on either side. -/
theorem padded_apply (l : FVec Ideal S1 .f32) (b : FVec Ideal S255 .f32) (h : FVec Ideal S1 .f32) (L H : ℝ) (f : ℕ → ℝ)
    (hl : ∀ j, l j = ((L : ℝ) : EReal)) (hb : ∀ i : S255.Idx, b i = ((f (i 0) : ℝ) : EReal)) (hh : ∀ j, h j = ((H : ℝ) : EReal))
    (i : S257.Idx) :
    Stages.padded l b h i = (((if (i 0 : ℕ) = 0 then L else if (i 0 : ℕ) = 256 then H else f (i 0 - 1) : ℝ)) : EReal) := by
  have hi : (i 0 : ℕ) < 257 := (i 0).isLt
  unfold Stages.padded
  split
  · next h0 =>
    exact Eq.trans (concatenate_apply_piece 0 _ _ i 0 (by simp) S1 _ rfl rfl 0 rfl (ix1 ⟨0, by decide⟩)
      (fun b hb => absurd (Subsingleton.elim b 0) hb) h0.symm) (hl _)
  · next h0 =>
    split
    · next h' =>
      exact Eq.trans (concatenate_apply_piece 0 _ _ i 2 (by simp) S1 _ rfl rfl 256 rfl (ix1 ⟨0, by decide⟩)
        (fun b hb => absurd (Subsingleton.elim b 0) hb) h'.symm) (hh _)
    · next h' =>
      exact Eq.trans (concatenate_apply_piece 0 _ _ i 1 (by simp) S255 _ rfl rfl 1 rfl (ix1 ⟨(i 0 : ℕ) - 1, by omega⟩)
        (fun b hb => absurd (Subsingleton.elim b 0) hb) (by show 1 + ((i 0 : ℕ) - 1) = _; omega)) (hb _)

/-- The boundary below the lowest. -/
theorem low_apply (b : FVec Ideal S255 .f32) (f : ℕ → ℝ) (hb : ∀ i : S255.Idx, b i = ((f (i 0) : ℝ) : EReal)) (j : S1.Idx) :
    Stages.low b j = ((2 * f 0 - f 1 : ℝ) : EReal) := by
  unfold Stages.low
  idx_vars j
  pointwise
  rw [hb, hb, ← EReal.coe_sub, ← EReal.coe_sub]
  refine congrArg _ ?_
  show f 0 - (f 1 - f 0) = _
  ring

/-- The boundary above the highest. -/
theorem high_apply (b : FVec Ideal S255 .f32) (f : ℕ → ℝ) (hb : ∀ i : S255.Idx, b i = ((f (i 0) : ℝ) : EReal)) (j : S1.Idx) :
    Stages.high b j = ((2 * f 254 - f 253 : ℝ) : EReal) := by
  unfold Stages.high
  idx_vars j
  pointwise
  rw [hb, hb, ← EReal.coe_sub, ← EReal.coe_add]
  refine congrArg _ ?_
  show f 254 + (f 254 - f 253) = _
  ring

/-- The middles of neighbouring boundaries. -/
theorem reps_apply (p : FVec Ideal S257 .f32) (f : ℕ → ℝ) (hp : ∀ i : S257.Idx, p i = ((f (i 0) : ℝ) : EReal)) (i : S256.Idx) :
    Stages.reps p i = ((2⁻¹ * (f (i 0) + f (i 0 + 1)) : ℝ) : EReal) := by
  unfold Stages.reps
  idx_vars i
  pointwise
  rw [word_half, hp, hp, ← EReal.coe_add, ← EReal.coe_mul]
  refine congrArg _ ?_
  show 2⁻¹ * (f i0 + f (1 + i0)) = 2⁻¹ * (f i0 + f (i0 + 1))
  rw [Nat.add_comm 1]

/-- The reference's boundaries. -/
theorem allBounds_apply (i : S255.Idx) : Stages.allBounds i = ((bnd ratio (i 0) : ℝ) : EReal) := by
  have hi : (i 0 : ℕ) < 255 := (i 0).isLt
  have hr : ratio - 1 ≠ 0 := (sub_pos.2 one_lt_ratio).ne'
  have hd := (den_pos one_lt_ratio).ne'
  have hg : ∀ n, ∑ i ∈ Finset.range n, ratio ^ i = (ratio ^ n - 1) / (ratio - 1) := fun n => geom_sum_eq one_lt_ratio.ne' n
  have hq : ∀ n, (∑ i ∈ Finset.range (n + 1), ratio ^ i) * (1 / ∑ i ∈ Finset.range (126 + 1), ratio ^ i) = (ratio ^ (n + 1) - 1) / den ratio := by
    intro n
    rw [hg, hg]
    unfold den at hd ⊢
    field_simp
  have h1 := sums_apply Stages.widths (fun k => ratio ^ k) widths_apply
  have h2 := edge_apply _ (fun k => ∑ i ∈ Finset.range (k + 1), ratio ^ i) h1
    (by rw [hg]; exact div_ne_zero (by unfold den at hd; exact hd) hr)
  refine (bounds_apply _ (fun k => (∑ i ∈ Finset.range (k + 1), ratio ^ i) * (1 / ∑ i ∈ Finset.range (126 + 1), ratio ^ i)) h2 i).trans (congrArg _ ?_)
  unfold bnd
  simp only [hq]
  split
  · rw [show 126 - (i 0 : ℕ) + 1 = 127 - (i 0 : ℕ) by omega]
  · split
    · next h => rw [h]; simp
    · rw [show (i 0 : ℕ) - 128 + 1 = (i 0 : ℕ) - 127 by omega]

/-- The reference's replacement values. -/
theorem allReps_apply (i : S256.Idx) : Stages.allReps i = ((rep ratio (i 0) : ℝ) : EReal) :=
  reps_apply _ (pad ratio) (padded_apply _ _ _ _ _ _ (low_apply _ _ allBounds_apply) allBounds_apply (high_apply _ _ allBounds_apply)) i

end Cert.ReferenceIdeal.Tables

end
-- ==== Proof.ReferenceIdeal.Result.lean ====
/-
  The reference's result over the extended reals: every element is the argument's element plus its rounding error, the
  rounding being the look-up of the element's bucket in the table.
-/
module

public import proofs.«01_k».proof.Proof.ReferenceIdeal.Tables
public import proofs.«01_k».proof.Proof.KernelIdeal.Amax
public import Idealize.ShloMosaic.Lib.ReduceAll

@[expose] public section

set_option maxRecDepth 16384

noncomputable section

namespace Cert.ReferenceIdeal.Result

open Cert.ReferenceIdeal Cert.ReferenceIdeal.Gen Cert.Golden Cert.Consts
open Idealize.ShloMosaic
open Cert.KernelIdeal.Value (Largest)

/-! ## The scale -/

/-- The largest absolute value, as the reference computes it. -/
def top (x : FVec Ideal S2x8192x4096 .f32) : FVec Ideal S_ .f32 :=
  Host.reduce FloatOps.maximumf (Host.absf x) (constant S_ .f32 0xFF800000#32) reducesTo_S2x8192x4096_S_d0_1_2 h_S_

set_option backward.isDefEq.respectTransparency false in
/-- A reduction by the larger one from the bottom, over all axes, is bounded by what bounds every element. -/
theorem reduce_le (y : S2x8192x4096.Idx → EReal) (j : S_.Idx) (b : EReal) :
    Host.reduce (max : EReal → EReal → EReal) y (fun _ : S_.Idx => (⊥ : EReal)) reducesTo_S2x8192x4096_S_d0_1_2 h_S_ j ≤ b
      ↔ ∀ i, y i ≤ b := by
  rw [Host.reduce_eq_fold, Finset.fold_max_le]
  exact ⟨fun h i => h.2 i (Finset.mem_filter.2 ⟨Finset.mem_univ _, funext fun a => a.elim0⟩), fun h => ⟨bot_le, fun i _ => h i⟩⟩

theorem bot_eq : (constant (F := Ideal) S_ .f32 0xFF800000#32) = fun _ => (⊥ : EReal) := funext fun _ => word_bot

theorem top_largest (x : FVec Ideal S2x8192x4096 .f32) (j : S_.Idx) : Largest x (top x j) := by
  intro b
  unfold top
  rw [bot_eq]
  exact reduce_le (fun i => max (x i) (-(x i))) j b

theorem max_apply (a : FVec Ideal S_ .f32) (j : S_.Idx) :
    maximumf a (constant S_ .f32 0x322BCC77#32) j = max (a j : EReal) least := by
  rw [← word_least]
  rfl

/-- The scale is the largest absolute value, at least the least scale. -/
theorem scale_apply (x : FVec Ideal S2x8192x4096 .f32) (j : S_.Idx) : Stages.scale x j = max (top x j : EReal) least :=
  max_apply (top x) j

/-! ## The number of boundaries below -/

/-- A comparison of a boundary and an element. -/
theorem below_apply (b : FVec Ideal S255 .f32) (v : FVec Ideal S2x8192x4096 .f32) (i0 : Fin 2) (i1 : Fin 8192) (i2 : Fin 4096) (k : Fin 255) :
    Stages.below b v (ix4 i0 i1 i2 k) = BitVec.ofBool (decide ((b (ix1 k) : EReal) < v (ix3 i0 i1 i2))) := by
  unfold Stages.below
  pointwise

/-- A fold of additions of zeros and ones counts the ones. -/
theorem fold_count {ι : Type} (g : ι → BitVec 32) (p : ι → Prop) [DecidablePred p] (h : ∀ k, g k = if p k then 1#32 else 0#32)
    (S : Finset ι) : S.fold IntOp.addi 0#32 g = BitVec.ofNat 32 (S.filter p).card := by
  classical
  induction S using Finset.cons_induction with
  | empty => rfl
  | cons a S ha ih =>
    rw [Finset.fold_cons, ih, Finset.filter_cons, h]
    split
    · rw [Finset.card_cons, Nat.add_comm, BitVec.ofNat_add]; rfl
    · exact BitVec.zero_add _

theorem reduces3 : S2x8192x4096x255.Reduces [3] S2x8192x4096 := by decide

theorem lift3 (i0 : Fin 2) (i1 : Fin 8192) (i2 : Fin 4096) (k : Fin 255) : reduces3.lift (ix3 i0 i1 i2) k = ix4 i0 i1 i2 k := by
  funext a
  match a with
  | ⟨0, _⟩ => exact Fin.ext rfl
  | ⟨1, _⟩ => exact Fin.ext rfl
  | ⟨2, _⟩ => exact Fin.ext rfl
  | ⟨3, _⟩ => exact Fin.ext rfl

theorem card_fin (V : ℝ) : bucket ratio V = (Finset.univ.filter fun k : Fin 255 => bnd ratio k < V).card := by
  rw [bucket, Finset.card_filter, Finset.card_filter, Finset.sum_range]

/-- The count of the boundaries below an element is its bucket. -/
theorem counts_apply (b : FVec Ideal S255 .f32) (v : FVec Ideal S2x8192x4096 .f32)
    (hb : ∀ i : S255.Idx, b i = ((bnd ratio (i 0) : ℝ) : EReal)) (i0 : Fin 2) (i1 : Fin 8192) (i2 : Fin 4096) (V : ℝ)
    (hV : v (ix3 i0 i1 i2) = ((V : ℝ) : EReal)) :
    Stages.counts (Stages.below b v) (ix3 i0 i1 i2) = BitVec.ofNat 32 (bucket ratio V) := by
  unfold Stages.counts
  rw [Host.reduce_eq_fold_single IntOp.addi _ _ _ reduces3]
  refine (fold_count _ (fun k : Fin 255 => bnd ratio k < V) (fun k => ?_) _).trans (congrArg _ ?_)
  · show (Stages.below b v (reduces3.lift (ix3 i0 i1 i2) k)).setWidth 32 = _
    rw [lift3, below_apply, hb, hV, show (ix1 k 0 : Fin 255) = k from rfl]
    by_cases h : bnd ratio k < V
    · rw [if_pos h, decide_eq_true (EReal.coe_lt_coe_iff.2 h)]; rfl
    · rw [if_neg h, decide_eq_false (fun h' => h (EReal.coe_lt_coe_iff.1 h'))]; rfl
  · exact (card_fin V).symm

/-! ## The look-up -/

/-- A number up to 255 as a word: not negative, at most 255. -/
theorem small (B : ℕ) (hB : B ≤ 255) : (BitVec.ofNat 32 B).toInt = B := by
  rw [BitVec.toInt_eq_toNat_of_lt] <;> rw [BitVec.toNat_ofNat, Nat.mod_eq_of_lt (by omega)]
  omega

theorem cmp_slt (B : ℕ) (hB : B ≤ 255) : IntOp.cmpi .slt (BitVec.ofNat 32 B) 0#32 = 0#1 := by
  show BitVec.ofBool (BitVec.slt (BitVec.ofNat 32 B) 0#32) = 0#1
  rw [BitVec.slt_eq_decide, small B hB, show (0#32).toInt = 0 from rfl, decide_eq_false (Int.not_lt.2 (Int.natCast_nonneg B))]
  rfl

theorem cmp_sge (B : ℕ) (hB : B ≤ 255) : IntOp.cmpi .sge (BitVec.ofNat 32 B) 0#32 = 1#1 := by
  show BitVec.ofBool (BitVec.sle 0#32 (BitVec.ofNat 32 B)) = 1#1
  rw [BitVec.sle_eq_decide, small B hB]
  simp

theorem cmp_sle (B : ℕ) (hB : B ≤ 255) : IntOp.cmpi .sle (BitVec.ofNat 32 B) 255#32 = 1#1 := by
  show BitVec.ofBool (BitVec.sle (BitVec.ofNat 32 B) 255#32) = 1#1
  rw [BitVec.sle_eq_decide, small B hB, small 255 le_rfl]
  simp [hB]

/-- A position that is no negative number is kept. -/
theorem chosen_apply (n : IVec S2x8192x4096 32) (i : S2x8192x4096x1.Idx) (B : ℕ) (hB : B ≤ 255)
    (hn : n (ix3 (i 0) (i 1) (i 2)) = BitVec.ofNat 32 B) : Stages.chosen n i = BitVec.ofNat 32 B := by
  unfold Stages.chosen
  idx_vars i
  pointwise
  rw [hn, cmp_slt B hB]
  rfl

/-- Positions between 0 and 255 lie in the table. -/
theorem inside_apply (k : IVec S2x8192x4096x1 32) (hk : ∀ i, ∃ B ≤ 255, k i = BitVec.ofNat 32 B) (j : S2x8192x4096.Idx) :
    Stages.inside k j = 1#1 := by
  unfold Stages.inside
  refine Host.reduce_andi_one _ _ _ _ _ rfl fun i => ?_
  obtain ⟨B, hB, h⟩ := hk i
  idx_vars i
  pointwise
  rw [h, cmp_sge B hB, cmp_sle B hB]
  rfl

/-- The table read at a position between 0 and 255. -/
theorem taken_apply (t : FVec Ideal S256 .f32) (k : IVec S2x8192x4096x1 32) (j : S2x8192x4096.Idx) (B : ℕ) (hB : B < 256)
    (hk : ∀ i, i 0 = j 0 → i 1 = j 1 → i 2 = j 2 → k i = BitVec.ofNat 32 B) : Stages.taken t k j = t (ix1 ⟨B, hB⟩) := by
  unfold Stages.taken Host.gather
  congr 1
  funext a
  obtain rfl : a = 0 := Subsingleton.elim _ _
  refine Fin.ext ?_
  show (gather_S256_S2x8192x4096x1_S2x8192x4096_n_0_n_n_0_3_1).start j k 0
    + (gather_S256_S2x8192x4096x1_S2x8192x4096_n_0_n_n_0_3_1).batchCoord j 0
    + (gather_S256_S2x8192x4096x1_S2x8192x4096_n_0_n_n_0_3_1).offCoord j 0 = B
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S256_S2x8192x4096x1_S2x8192x4096_n_0_n_n_0_3_1).startIndexMap from List.mem_singleton.mpr rfl)]
  rw [hk _ (Fin.ext rfl) (Fin.ext rfl) (Fin.ext rfl)]
  rw [small B (by omega)]
  show min B 255 = B
  omega

/-- A position in the table gives the table's value. -/
theorem looked_apply (q : IVec S2x8192x4096 1) (v : FVec Ideal S2x8192x4096 .f32) (i : S2x8192x4096.Idx) (h : q i = 1#1) :
    Stages.looked q v i = v i := by
  unfold Stages.looked
  idx_vars i
  pointwise
  rw [h]
  rfl

/-! ## The result -/

theorem scaled_apply (x : FVec Ideal S2x8192x4096 .f32) (s : FVec Ideal S_ .f32) (i : S2x8192x4096.Idx) :
    Stages.scaled x s i = Ideal.div (x i) (s ix0) := by
  unfold Stages.scaled
  idx_vars i
  pointwise

theorem result_apply (x v : FVec Ideal S2x8192x4096 .f32) (s : FVec Ideal S_ .f32) (i : S2x8192x4096.Idx) :
    Stages.result x v s i = (x i : EReal) + ((v i : EReal) * s ix0 - x i) := by
  unfold Stages.result
  idx_vars i
  pointwise

/-- The scaled elements are real numbers. -/
theorem real (x : FVec Ideal S2x8192x4096 .f32) (M : EReal) (hM : Largest x M) (j : S2x8192x4096.Idx) :
    ∃ V : ℝ, Ideal.div (x j) (max M least) = ((V : ℝ) : EReal) :=
  let ⟨V, _, h⟩ := Closed.scaled M (x j) ((hM M).1 le_rfl j)
  ⟨V, h⟩

/-- The position of an element in the table is its bucket. -/
theorem positions_apply (x : FVec Ideal S2x8192x4096 .f32) (M : EReal) (hs : Stages.scale x ix0 = max M least)
    (k : S2x8192x4096x1.Idx) (V : ℝ) (hV : Ideal.div (x (ix3 (k 0) (k 1) (k 2))) (max M least) = ((V : ℝ) : EReal)) :
    Stages.positions x k = BitVec.ofNat 32 (bucket ratio V) := by
  unfold Stages.positions
  refine chosen_apply _ k _ (bucket_le V) ?_
  refine counts_apply _ _ Tables.allBounds_apply _ _ _ V ?_
  rw [scaled_apply, hs, hV]

/-- The look-up gives the table's value at the element's bucket. -/
theorem value_apply (x : FVec Ideal S2x8192x4096 .f32) (M : EReal) (hM : Largest x M) (hs : Stages.scale x ix0 = max M least)
    (i : S2x8192x4096.Idx) : Stages.looked (Stages.inside (Stages.positions x)) (Stages.taken Stages.allReps (Stages.positions x)) i
      = Closed.table (Ideal.div (x i) (max M least)) := by
  have hin : Stages.inside (Stages.positions x) i = 1#1 := inside_apply _ (fun k => by
    obtain ⟨V, hV⟩ := real x M hM (ix3 (k 0) (k 1) (k 2))
    exact ⟨_, bucket_le V, positions_apply x M hs k V hV⟩) i
  obtain ⟨V, hV⟩ := real x M hM i
  have hB : bucket ratio V < 256 := Nat.lt_succ_of_le (bucket_le V)
  rw [looked_apply _ _ _ hin, taken_apply _ _ i (bucket ratio V) hB (fun k h0 h1 h2 => positions_apply x M hs k V (by
    rw [h0, h1, h2, ix3_eta]; exact hV)), Tables.allReps_apply, Closed.table, hV, EReal.toReal_coe]
  rfl

/-- Every element of the reference's result, from the scale `max M least`. -/
theorem whole_apply (x : FVec Ideal S2x8192x4096 .f32) : ∃ M : EReal, Largest x M ∧ ∀ i, Stages.whole x i
    = (x i : EReal) + (Closed.table (Ideal.div (x i) (max M least)) * max M least - x i) := by
  refine ⟨top x ix0, top_largest x ix0, fun i => ?_⟩
  unfold Stages.whole
  rw [result_apply, value_apply x (top x ix0) (top_largest x ix0) (scale_apply x ix0), scale_apply]

end Cert.ReferenceIdeal.Result

end
-- ==== Proof.Equal.lean ====
/-
  The fifth claim: over the extended reals the kernel and the reference compute the same two results.
-/
module

public import proofs.«01_k».proof.Defs
public import proofs.«01_k».proof.Proof.KernelIdeal.Value
public import proofs.«01_k».proof.Proof.ReferenceIdeal.Result

@[expose] public section

set_option maxRecDepth 16384

noncomputable section

namespace Cert.Proof

open Idealize.ShloMosaic Idealize.ShloMosaic.TcCoe Idealize.SL.Sem

/-- The reference's first result at the kernel's argument is the kernel's first result. -/
theorem first_result (m : (ℓ : Loc KernelIdeal.nD KernelIdeal.τ KernelIdeal.sig) → Buf (Elt Ideal) ℓ) (c : Dev KernelIdeal.nD) :
    ReferenceIdeal.Stages.whole (KernelIdeal.Value.arg m c)
      = KernelIdeal.Run.U4 m c (Proc.devRef .tc KernelIdeal.main_v3) := by
  obtain ⟨M, hM, h⟩ := ReferenceIdeal.Result.whole_apply (KernelIdeal.Value.arg m c)
  have e : M = KernelIdeal.Value.amax m c := hM.unique (KernelIdeal.Value.amax_largest m c)
  funext i
  rw [h i, e]
  exact (KernelIdeal.Value.result_eq m c i).symm

/-- From memories that agree on the arguments the kernel and the reference end with equal results: the quantised
    array, and the argument itself. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => KernelIdeal.Run.U4 m c (Proc.devRef .tc KernelIdeal.main_v3),
    fun c => m ((c.tc : Thread KernelIdeal.nD KernelIdeal.τ).loc KernelIdeal.main_arg0), ?_, ?_⟩
  · exact (θ_run _ _ _).mono (fun _ h c => ⟨(h.1 c).1, (h.1 c).2.1, (h.1 c).2⟩) (KernelIdeal.Run.run m ρ)
  · refine (θ_run _ _ _).mono (fun _ h c => ⟨(h c).1.trans ?_, (h c).2.1.trans (hagree c).1, (h c).2.2⟩)
      (ReferenceIdeal.Value.run (F := Ideal) m' ρ')
    rw [ReferenceIdeal.Stages.res_eq, (hagree c).1]
    exact first_result m c

end Cert.Proof

end
-- ==== Proof.lean ====
/-
  The certificate: the three programs run and end, the ideal program is the kernel with its constants named, and the
  kernel and the reference compute the same results over the extended reals.
-/
module

public import proofs.«01_k».proof.Defs
public import proofs.«01_k».proof.Proof.Frames
public import proofs.«01_k».proof.Proof.Equal

@[expose] public section

noncomputable section

namespace Cert.Proof

/-- All five claims. -/
theorem claim : Cert.Claim := ⟨Cert.Kernel.Gen.facts, Cert.KernelIdeal.Gen.facts, Cert.ReferenceIdeal.Gen.facts,
  frame_kernel, frame_ideal, frame_reference, preserves, algebraic⟩

end Cert.Proof

end
